-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v29)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v29) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v91) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7_0)) (v1 : (c : Dev Cert.MergeIdeal.nD) → Buf (Elt Ideal) ((c.tc : Thread Cert.MergeIdeal.nD Cert.MergeIdeal.τ).loc Cert.MergeIdeal.main_v7_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_0) = v0 c
          ∧ r.2.mem ((c.tc : Thread Cert.MergeIdeal.nD Cert.MergeIdeal.τ).loc Cert.MergeIdeal.main_v7_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v13) = v0 c
          ∧ r.2.mem ((c.tc : Thread Cert.MergeReferenceIdeal.nD Cert.MergeReferenceIdeal.τ).loc Cert.MergeReferenceIdeal.main_v28) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Mix_MixIdeal : Prop :=
  True

def algebraic_MixIdeal_MixReferenceIdeal_pre_mix_finite [hMixIdeal : Cert.MixIdeal.Facts] [hMixReferenceIdeal : Cert.MixReferenceIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_mix_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v15_0)) (v1 : (c : Dev Cert.MixIdeal.nD) → Buf (Elt Ideal) ((c.tc : Thread Cert.MixIdeal.nD Cert.MixIdeal.τ).loc Cert.MixIdeal.main_v15_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15_0) = v0 c
          ∧ r.2.mem ((c.tc : Thread Cert.MixIdeal.nD Cert.MixIdeal.τ).loc Cert.MixIdeal.main_v15_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v65) = v0 c
          ∧ r.2.mem ((c.tc : Thread Cert.MixReferenceIdeal.nD Cert.MixReferenceIdeal.τ).loc Cert.MixReferenceIdeal.main_v80) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hMix : Cert.Mix.Facts) (hMixIdeal : Cert.MixIdeal.Facts) (hMixReferenceIdeal : Cert.MixReferenceIdeal.Facts) (hPre_finite : Cert.Pre_finite.Facts) (hPre_mix_finite : Cert.Pre_mix_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_Mix_MixIdeal
    ∧ algebraic_MixIdeal_MixReferenceIdeal_pre_mix_finite (hMixIdeal := hMixIdeal) (hMixReferenceIdeal := hMixReferenceIdeal) (hPre_mix_finite := hPre_mix_finite)
-- ==== Pre_finite.lean ====
abbrev S4x4096x9216 : Shape := ⟨3, ![4, 4096, 9216]⟩
abbrev S128 : Shape := ⟨1, ![128]⟩
abbrev S256 : Shape := ⟨1, ![256]⟩
abbrev S4x4096x3072 : Shape := ⟨3, ![4, 4096, 3072]⟩
abbrev S_ : Shape := ⟨0, ![]⟩

class Facts : Prop where
  slices_S4x4096x9216_S4x4096x3072_0_0_0 : S4x4096x9216.Slices ![0, 0, 0] S4x4096x3072
  bcast_S_S4x4096x3072 : S_.BroadcastsInDim S4x4096x3072 (![] : Fin 0 → Fin S4x4096x3072.rank)

variable [Facts]

def fn {F : FTy → Type} [FloatOps F] (main_arg0 : FVec F S4x4096x9216 .bf16) (main_arg1 : FVec F S128 .f32) (main_arg2 : FVec F S128 .f32) (main_arg3 : FVec F S128 .f32) (main_arg4 : FVec F S128 .f32) (main_arg5 : FVec F S256 .f32) : IVec S4x4096x3072 1 :=
  let main_v0 : FVec F S4x4096x3072 .bf16 := (extractStridedSlice S4x4096x3072 ![0, 0, 0] · slices_S4x4096x9216_S4x4096x3072_0_0_0) main_arg0
  let main_v1 : FVec F S4x4096x3072 .bf16 := Host.absf main_v0
  let main_cst : FVec F S_ .bf16 := constant S_ .bf16 0x7F80#16
  let main_v2 : FVec F S4x4096x3072 .bf16 := broadcastInDim S4x4096x3072 ![] bcast_S_S4x4096x3072 main_cst
  let main_v3 : IVec S4x4096x3072 1 := cmpf .olt main_v1 main_v2
  main_v3
-- ==== Pre_mix_finite.lean ====
abbrev S16384x9216 : Shape := ⟨2, ![16384, 9216]⟩
abbrev S128 : Shape := ⟨1, ![128]⟩
abbrev S256 : Shape := ⟨1, ![256]⟩
abbrev S4x4096x512 : Shape := ⟨3, ![4, 4096, 512]⟩
abbrev S4x4096x2048 : Shape := ⟨3, ![4, 4096, 2048]⟩
abbrev S1536x2048 : Shape := ⟨2, ![1536, 2048]⟩
abbrev S512x2048 : Shape := ⟨2, ![512, 2048]⟩
abbrev S2048x2048 : Shape := ⟨2, ![2048, 2048]⟩
abbrev S2048 : Shape := ⟨1, ![2048]⟩
abbrev S16384x3072 : Shape := ⟨2, ![16384, 3072]⟩
abbrev S_ : Shape := ⟨0, ![]⟩

class Facts : Prop where
  slices_S16384x9216_S16384x3072_0_0 : S16384x9216.Slices ![0, 0] S16384x3072
  bcast_S_S16384x3072 : S_.BroadcastsInDim S16384x3072 (![] : Fin 0 → Fin S16384x3072.rank)

variable [Facts]

def fn {F : FTy → Type} [FloatOps F] (main_arg0 : FVec F S16384x9216 .bf16) (main_arg1 : FVec F S128 .f32) (main_arg2 : FVec F S128 .f32) (main_arg3 : FVec F S128 .f32) (main_arg4 : FVec F S128 .f32) (main_arg5 : FVec F S256 .f32) (main_arg6 : FVec F S4x4096x512 .bf16) (main_arg7 : FVec F S4x4096x2048 .f32) (main_arg8 : FVec F S1536x2048 .f32) (main_arg9 : FVec F S512x2048 .f32) (main_arg10 : FVec F S2048x2048 .f32) (main_arg11 : FVec F S2048 .f32) : IVec S16384x3072 1 :=
  let main_v0 : FVec F S16384x3072 .bf16 := (extractStridedSlice S16384x3072 ![0, 0] · slices_S16384x9216_S16384x3072_0_0) main_arg0
  let main_v1 : FVec F S16384x3072 .bf16 := Host.absf main_v0
  let main_cst : FVec F S_ .bf16 := constant S_ .bf16 0x7F80#16
  let main_v2 : FVec F S16384x3072 .bf16 := broadcastInDim S16384x3072 ![] bcast_S_S16384x3072 main_cst
  let main_v3 : IVec S16384x3072 1 := cmpf .olt main_v1 main_v2
  main_v3
-- ==== Kernel.lean ====
abbrev S4x4096x9216 : Shape := ⟨3, ![4, 4096, 9216]⟩
abbrev S128 : Shape := ⟨1, ![128]⟩
abbrev S256 : Shape := ⟨1, ![256]⟩
abbrev S1x128 : Shape := ⟨2, ![1, 128]⟩
abbrev S4x128 : Shape := ⟨2, ![4, 128]⟩
abbrev S1x256 : Shape := ⟨2, ![1, 256]⟩
abbrev S4x4096x1536 : Shape := ⟨3, ![4, 4096, 1536]⟩
abbrev S1x256x256 : Shape := ⟨3, ![1, 256, 256]⟩
abbrev S1x4096x256 : Shape := ⟨3, ![1, 4096, 256]⟩
abbrev S1 : Shape := ⟨1, ![1]⟩
abbrev S1x1 : Shape := ⟨2, ![1, 1]⟩
abbrev S256x256 : Shape := ⟨2, ![256, 256]⟩
abbrev S4096x256 : Shape := ⟨2, ![4096, 256]⟩
abbrev S256x128 : Shape := ⟨2, ![256, 128]⟩
abbrev S4096x128 : Shape := ⟨2, ![4096, 128]⟩
abbrev S256x4096 : Shape := ⟨2, ![256, 4096]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x9216, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S4x128, .f32⟩
  | .hbm, ⟨11, _⟩ => ⟨S1x256, .f32⟩
  | .hbm, ⟨12, _⟩ => ⟨S4x4096x1536, .bf16⟩
  | .local _ .vmem, ⟨0, _⟩ => ⟨S4x128, .f32⟩
  | .local _ .vmem, ⟨1, _⟩ => ⟨S1x256, .f32⟩
  | .local _ .vmem, ⟨2, _⟩ => ⟨S1x256x256, .bf16⟩
  | .local _ .vmem, ⟨3, _⟩ => ⟨S1x256x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x256, .bf16⟩
  | .local _ .vmem, ⟨9, _⟩ => ⟨S1x256x256, .bf16⟩
  | _, _ => ⟨S4x4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 6, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x9216 : Shape := ⟨3, ![4, 4096, 9216]⟩
abbrev S128 : Shape := ⟨1, ![128]⟩
abbrev S256 : Shape := ⟨1, ![256]⟩
abbrev S_ : Shape := ⟨0, ![]⟩
abbrev S4x4096x1536 : Shape := ⟨3, ![4, 4096, 1536]⟩
abbrev S4x4096x6x2x128 : Shape := ⟨5, ![4, 4096, 6, 2, 128]⟩
abbrev S4x4096x6x256 : Shape := ⟨4, ![4, 4096, 6, 256]⟩
abbrev S4x6x2x4096x4096 : Shape := ⟨5, ![4, 6, 2, 4096, 4096]⟩
abbrev S4x6x2x4096 : Shape := ⟨4, ![4, 6, 2, 4096]⟩
abbrev S4x6x2x4096x1 : Shape := ⟨5, ![4, 6, 2, 4096, 1]⟩
abbrev S4x6x1x4096x4096 : Shape := ⟨5, ![4, 6, 1, 4096, 4096]⟩
abbrev S4x6x4096x4096 : Shape := ⟨4, ![4, 6, 4096, 4096]⟩
abbrev S4x6x256x4096 : Shape := ⟨4, ![4, 6, 256, 4096]⟩
abbrev S4x4096x6 : Shape := ⟨3, ![4, 4096, 6]⟩
abbrev S4x4096x6x1 : Shape := ⟨4, ![4, 4096, 6, 1]⟩
abbrev S1x1x1x256 : Shape := ⟨4, ![1, 1, 1, 256]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x9216, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S4x4096x9216, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x4096x1536, .f32⟩
  | .hbm, ⟨19, _⟩ => ⟨S4x4096x6x2x128, .f32⟩
  | .hbm, ⟨20, _⟩ => ⟨S4x4096x1536, .f32⟩
  | .hbm, ⟨21, _⟩ => ⟨S4x4096x6x2x128, .f32⟩
  | .hbm, ⟨22, _⟩ => ⟨S4x4096x1536, .f32⟩
  | .hbm, ⟨23, _⟩ => ⟨S4x4096x6x256, .f32⟩
  | .hbm, ⟨24, _⟩ => ⟨S4x6x2x4096x4096, .f32⟩
  | .hbm, ⟨25, _⟩ => ⟨S_, .f32⟩
  | .hbm, ⟨26, _⟩ => ⟨S4x6x2x4096, .f32⟩
  | .hbm, ⟨27, _⟩ => ⟨S_, .f32⟩
  | .hbm, ⟨28, _⟩ => ⟨S4x6x2x4096, .f32⟩
  | .hbm, ⟨29, _⟩ => ⟨S4x6x2x4096, .f32⟩
  | .hbm, ⟨30, _⟩ => ⟨S4x6x2x4096x1, .f32⟩
  | .hbm, ⟨31, _⟩ => ⟨S4x6x2x4096x4096, .f32⟩
  | .hbm, ⟨32, _⟩ => ⟨S4x6x2x4096x4096, .f32⟩
  | .hbm, ⟨33, _⟩ => ⟨S4x6x2x4096x4096, .f32⟩
  | .hbm, ⟨34, _⟩ => ⟨S_, .f32⟩
  | .hbm, ⟨35, _⟩ => ⟨S4x6x2x4096, .f32⟩
  | .hbm, ⟨36, _⟩ => ⟨S4x6x2x4096x1, .f32⟩
  | .hbm, ⟨37, _⟩ => ⟨S4x6x2x4096x4096, .f32⟩
  | .hbm, ⟨38, _⟩ => ⟨S4x6x2x4096x4096, .f32⟩
  | .hbm, ⟨39, _⟩ => ⟨S4x6x1x4096x4096, .f32⟩
  | .hbm, ⟨40, _⟩ => ⟨S4x6x4096x4096, .f32⟩
  | .hbm, ⟨41, _⟩ => ⟨S4x6x1x4096x4096, .f32⟩
  | .hbm, ⟨42, _⟩ => ⟨S4x6x4096x4096, .f32⟩
  | .hbm, ⟨43, _⟩ => ⟨S4x6x4096x4096, .f32⟩
  | .hbm, ⟨44, _⟩ => ⟨S4x6x4096x4096, .f32⟩
  | .hbm, ⟨45, _⟩ => ⟨S4x6x4096x4096, .f32⟩
  | .hbm, ⟨46, _⟩ => ⟨S4x6x256x4096, .f32⟩
  | .hbm, ⟨47, _⟩ => ⟨S4x4096x6x256, .f32⟩
  | .hbm, ⟨48, _⟩ => ⟨S4x4096x6x256, .f32⟩
  | .hbm, ⟨49, _⟩ => ⟨S_, .f32⟩
  | .hbm, ⟨50, _⟩ => ⟨S4x4096x6, .f32⟩
  | .hbm, ⟨51, _⟩ => ⟨S4x4096x6x1, .f32⟩
  | .hbm, ⟨52, _⟩ => ⟨S_, .f32⟩
  | .hbm, ⟨53, _⟩ => ⟨S4x4096x6x1, .f32⟩
  | .hbm, ⟨54, _⟩ => ⟨S4x4096x6x1, .f32⟩
  | .hbm, ⟨55, _⟩ => ⟨S_, .f32⟩
  | .hbm, ⟨56, _⟩ => ⟨S4x4096x6x1, .f32⟩
  | .hbm, ⟨57, _⟩ => ⟨S4x4096x6x1, .f32⟩
  | .hbm, ⟨58, _⟩ => ⟨S4x4096x6x1, .f32⟩
  | .hbm, ⟨59, _⟩ => ⟨S4x4096x6x256, .f32⟩
  | .hbm, ⟨60, _⟩ => ⟨S4x4096x6x256, .f32⟩
  | .hbm, ⟨61, _⟩ => ⟨S1x1x1x256, .f32⟩
  | .hbm, ⟨62, _⟩ => ⟨S4x4096x6x256, .f32⟩
  | .hbm, ⟨63, _⟩ => ⟨S4x4096x6x256, .f32⟩
  | .hbm, ⟨64, _⟩ => ⟨S_, .f32⟩
  | .hbm, ⟨65, _⟩ => ⟨S4x4096x6x256, .f32⟩
  | .hbm, ⟨66, _⟩ => ⟨S4x4096x6x256, .f32⟩
  | .hbm, ⟨67, _⟩ => ⟨S4x4096x1536, .f32⟩
  | .hbm, ⟨68, _⟩ => ⟨S4x4096x1536, .bf16⟩
  | _, _ => ⟨S4x4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Ffn.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32 : BitVec 32 := 10#32
  let v20 : BitVec 1 := Scalar.cmpi .eq arg1 c10_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== InProj.lean ====
abbrev S4x4096x2048 : Shape := ⟨3, ![4, 4096, 2048]⟩
abbrev S2048 : Shape := ⟨1, ![2048]⟩
abbrev S2048x9216 : Shape := ⟨2, ![2048, 9216]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S16384x2048 : Shape := ⟨2, ![16384, 2048]⟩
abbrev S1x2048 : Shape := ⟨2, ![1, 2048]⟩
abbrev S16384x9216 : Shape := ⟨2, ![16384, 9216]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 41
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x9216, .f32⟩
  | .hbm, ⟨3, _⟩ => ⟨S4096, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x96, .f32⟩
  | .hbm, ⟨27, _⟩ => ⟨S4096x128, .f32⟩
  | .hbm, ⟨28, _⟩ => ⟨S4096x16, .f32⟩
  | .hbm, ⟨29, _⟩ => ⟨S_, .f32⟩
  | .hbm, ⟨30, _⟩ => ⟨S4096x112, .f32⟩
  | .hbm, ⟨31, _⟩ => ⟨S4096x128, .f32⟩
  | .hbm, ⟨32, _⟩ => ⟨S_, .f32⟩
  | .hbm, ⟨33, _⟩ => ⟨S4096x16, .f32⟩
  | .hbm, ⟨34, _⟩ => ⟨S_, .f32⟩
  | .hbm, ⟨35, _⟩ => ⟨S4096x96, .f32⟩
  | .hbm, ⟨36, _⟩ => ⟨S4096x128, .f32⟩
  | .hbm, ⟨37, _⟩ => ⟨S16384x2048, .f32⟩
  | .hbm, ⟨38, _⟩ => ⟨S2048x9216, .bf16⟩
  | .hbm, ⟨39, _⟩ => ⟨S1x2048, .f32⟩
  | .hbm, ⟨40, _⟩ => ⟨S16384x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 18], ![false, false]⟩

def k0_cond2 (i : grid0.Coords) : BitVec 1 :=
  let arg1 : BitVec 32 := BitVec.ofNat 32 (i 1).val
  let c6_i32 : BitVec 32 := 6#32
  let v7 : BitVec 1 := Scalar.cmpi .slt arg1 c6_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c6_i32_5 : BitVec 32 := 6#32
  let v10 : BitVec 1 := Scalar.cmpi .sge arg1 c6_i32_5
  let c10_i32 : BitVec 32 := 10#32
  let v11 : BitVec 1 := Scalar.cmpi .slt arg1 c10_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c10_i32_7 : BitVec 32 := 10#32
  let v15 : BitVec 1 := Scalar.cmpi .sge arg1 c10_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InProjReferenceIdeal.lean ====
abbrev S4x4096x2048 : Shape := ⟨3, ![4, 4096, 2048]⟩
abbrev S2048 : Shape := ⟨1, ![2048]⟩
abbrev S2048x9216 : Shape := ⟨2, ![2048, 9216]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x1x16 : Shape := ⟨5, ![1, 4096, 1, 1, 16]⟩
abbrev S4x4096 : Shape := ⟨2, ![4, 4096]⟩
abbrev S4x4096x1 : Shape := ⟨3, ![4, 4096, 1]⟩
abbrev S1x1x2048 : Shape := ⟨3, ![1, 1, 2048]⟩
abbrev S4x4096x9216 : Shape := ⟨3, ![4, 4096, 9216]⟩
abbrev S4x4096x1536 : Shape := ⟨3, ![4, 4096, 1536]⟩
abbrev S4x4096x6x2x128 : Shape := ⟨5, ![4, 4096, 6, 2, 128]⟩
abbrev S4x4096x6x2x32 : Shape := ⟨5, ![4, 4096, 6, 2, 32]⟩
abbrev S4x4096x6x2x96 : Shape := ⟨5, ![4, 4096, 6, 2, 96]⟩
abbrev S4x4096x6x2x16 : Shape := ⟨5, ![4, 4096, 6, 2, 16]⟩
abbrev S16384x9216 : Shape := ⟨2, ![16384, 9216]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x9216, .f32⟩
  | .hbm, ⟨3, _⟩ => ⟨S4096, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S1x4096x1x1x16, .f32⟩
  | .hbm, ⟨25, _⟩ => ⟨S4096x16, .f32⟩
  | .hbm, ⟨26, _⟩ => ⟨S1x4096x1x1x16, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S1x1x2048, .f32⟩
  | .hbm, ⟨41, _⟩ => ⟨S4x4096x2048, .f32⟩
  | .hbm, ⟨42, _⟩ => ⟨S4x4096x2048, .f32⟩
  | .hbm, ⟨43, _⟩ => ⟨S4x4096x9216, .f32⟩
  | .hbm, ⟨44, _⟩ => ⟨S4x4096x1536, .f32⟩
  | .hbm, ⟨45, _⟩ => ⟨S4x4096x6x2x128, .f32⟩
  | .hbm, ⟨46, _⟩ => ⟨S4x4096x1536, .f32⟩
  | .hbm, ⟨47, _⟩ => ⟨S4x4096x6x2x128, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S_, .f32⟩
  | .hbm, ⟨52, _⟩ => ⟨S4x4096x2048, .f32⟩
  | .hbm, ⟨53, _⟩ => ⟨S4x4096x2048, .f32⟩
  | .hbm, ⟨54, _⟩ => ⟨S_, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S_, .f32⟩
  | .hbm, ⟨61, _⟩ => ⟨S4x4096x2048, .f32⟩
  | .hbm, ⟨62, _⟩ => ⟨S4x4096x2048, .f32⟩
  | .hbm, ⟨63, _⟩ => ⟨S_, .f32⟩
  | .hbm, ⟨64, _⟩ => ⟨S4x4096x2048, .f32⟩
  | .hbm, ⟨65, _⟩ => ⟨S4x4096x2048, .f32⟩
  | .hbm, ⟨66, _⟩ => ⟨S4x4096x6x2x32, .f32⟩
  | .hbm, ⟨67, _⟩ => ⟨S4x4096x6x2x96, .f32⟩
  | .hbm, ⟨68, _⟩ => ⟨S4x4096x6x2x16, .f32⟩
  | .hbm, ⟨69, _⟩ => ⟨S4x4096x6x2x16, .f32⟩
  | .hbm, ⟨70, _⟩ => ⟨S4x4096x6x2x16, .f32⟩
  | .hbm, ⟨71, _⟩ => ⟨S4x4096x6x2x16, .f32⟩
  | .hbm, ⟨72, _⟩ => ⟨S4x4096x6x2x16, .f32⟩
  | .hbm, ⟨73, _⟩ => ⟨S4x4096x6x2x16, .f32⟩
  | .hbm, ⟨74, _⟩ => ⟨S4x4096x6x2x16, .f32⟩
  | .hbm, ⟨75, _⟩ => ⟨S4x4096x6x2x16, .f32⟩
  | .hbm, ⟨76, _⟩ => ⟨S4x4096x6x2x16, .f32⟩
  | .hbm, ⟨77, _⟩ => ⟨S4x4096x6x2x16, .f32⟩
  | .hbm, ⟨78, _⟩ => ⟨S4x4096x6x2x16, .f32⟩
  | .hbm, ⟨79, _⟩ => ⟨S4x4096x6x2x16, .f32⟩
  | .hbm, ⟨80, _⟩ => ⟨S4x4096x6x2x32, .f32⟩
  | .hbm, ⟨81, _⟩ => ⟨S4x4096x6x2x128, .f32⟩
  | .hbm, ⟨82, _⟩ => ⟨S_, .f32⟩
  | .hbm, ⟨83, _⟩ => ⟨S4x4096x6x2x128, .f32⟩
  | .hbm, ⟨84, _⟩ => ⟨S4x4096x6x2x128, .f32⟩
  | .hbm, ⟨85, _⟩ => ⟨S4x4096x6x2x32, .f32⟩
  | .hbm, ⟨86, _⟩ => ⟨S4x4096x6x2x96, .f32⟩
  | .hbm, ⟨87, _⟩ => ⟨S4x4096x6x2x16, .f32⟩
  | .hbm, ⟨88, _⟩ => ⟨S4x4096x6x2x16, .f32⟩
  | .hbm, ⟨89, _⟩ => ⟨S4x4096x6x2x16, .f32⟩
  | .hbm, ⟨90, _⟩ => ⟨S4x4096x6x2x16, .f32⟩
  | .hbm, ⟨91, _⟩ => ⟨S4x4096x6x2x16, .f32⟩
  | .hbm, ⟨92, _⟩ => ⟨S4x4096x6x2x16, .f32⟩
  | .hbm, ⟨93, _⟩ => ⟨S4x4096x6x2x16, .f32⟩
  | .hbm, ⟨94, _⟩ => ⟨S4x4096x6x2x16, .f32⟩
  | .hbm, ⟨95, _⟩ => ⟨S4x4096x6x2x16, .f32⟩
  | .hbm, ⟨96, _⟩ => ⟨S4x4096x6x2x16, .f32⟩
  | .hbm, ⟨97, _⟩ => ⟨S4x4096x6x2x16, .f32⟩
  | .hbm, ⟨98, _⟩ => ⟨S4x4096x6x2x16, .f32⟩
  | .hbm, ⟨99, _⟩ => ⟨S4x4096x6x2x32, .f32⟩
  | .hbm, ⟨100, _⟩ => ⟨S4x4096x6x2x128, .f32⟩
  | .hbm, ⟨101, _⟩ => ⟨S4x4096x1536, .f32⟩
  | .hbm, ⟨102, _⟩ => ⟨S4x4096x1536, .f32⟩
  | .hbm, ⟨103, _⟩ => ⟨S4x4096x2048, .f32⟩
  | .hbm, ⟨104, _⟩ => ⟨S4x4096x9216, .f32⟩
  | .hbm, ⟨105, _⟩ => ⟨S16384x9216, .f32⟩
  | .hbm, ⟨106, _⟩ => ⟨S16384x9216, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_10 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩

abbrev nD : Nat := 1
abbrev τ : Topo := Topo.v7x

variable {F : FTy → Type} [FloatOps F]
-- ==== Merge.lean ====
abbrev S4x4096x1536 : Shape := ⟨3, ![4, 4096, 1536]⟩
abbrev S4x4096x512 : Shape := ⟨3, ![4, 4096, 512]⟩
abbrev S16384x9216 : Shape := ⟨2, ![16384, 9216]⟩
abbrev S4x4096x2048 : Shape := ⟨3, ![4, 4096, 2048]⟩
abbrev S1536x2048 : Shape := ⟨2, ![1536, 2048]⟩
abbrev S512x2048 : Shape := ⟨2, ![512, 2048]⟩
abbrev S2048x2048 : Shape := ⟨2, ![2048, 2048]⟩
abbrev S2048 : Shape := ⟨1, ![2048]⟩
abbrev S16384x1536 : Shape := ⟨2, ![16384, 1536]⟩
abbrev S16384x512 : Shape := ⟨2, ![16384, 512]⟩
abbrev S16384x2048 : Shape := ⟨2, ![16384, 2048]⟩
abbrev S1x2048 : Shape := ⟨2, ![1, 2048]⟩
abbrev S512x1536 : Shape := ⟨2, ![512, 1536]⟩
abbrev S512x512 : Shape := ⟨2, ![512, 512]⟩
abbrev S512x1024 : Shape := ⟨2, ![512, 1024]⟩
abbrev S1536x1024 : Shape := ⟨2, ![1536, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 17
  | .vmem => 22
  | .smem => 0
  | _ => 0

abbrev bufTy : (tb : Table) → Fin (tcTables nBuf tb) → BufTy
  | .hbm, ⟨0, _⟩ => ⟨S4x4096x1536, .bf16⟩
  | .hbm, ⟨1, _⟩ => ⟨S4x4096x512, .bf16⟩
  | .hbm, ⟨2, _⟩ => ⟨S16384x9216, .bf16⟩
  | .hbm, ⟨3, _⟩ => ⟨S4x4096x2048, .f32⟩
  | .hbm, ⟨4, _⟩ => ⟨S1536x2048, .f32⟩
  | .hbm, ⟨5, _⟩ => ⟨S512x2048, .f32⟩
  | .hbm, ⟨6, _⟩ => ⟨S2048x2048, .f32⟩
  | .hbm, ⟨7, _⟩ => ⟨S2048, .f32⟩
  | .hbm, ⟨8, _⟩ => ⟨S16384x1536, .bf16⟩
  | .hbm, ⟨9, _⟩ => ⟨S16384x512, .bf16⟩
  | .hbm, ⟨10, _⟩ => ⟨S16384x2048, .f32⟩
  | .hbm, ⟨11, _⟩ => ⟨S1536x2048, .bf16⟩
  | .hbm, ⟨12, _⟩ => ⟨S512x2048, .bf16⟩
  | .hbm, ⟨13, _⟩ => ⟨S2048x2048, .bf16⟩
  | .hbm, ⟨14, _⟩ => ⟨S1x2048, .f32⟩
  | .hbm, ⟨15, _⟩ => ⟨S16384x2048, .f32⟩
  | .hbm, ⟨16, _⟩ => ⟨S16384x2048, .bf16⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1536x2048, .bf16⟩
  | .local _ .vmem, ⟨15, _⟩ => ⟨S512x2048, .bf16⟩
  | .local _ .vmem, ⟨16, _⟩ => ⟨S2048x2048, .bf16⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S4x4096x1536 : Shape := ⟨3, ![4, 4096, 1536]⟩
abbrev S4x4096x512 : Shape := ⟨3, ![4, 4096, 512]⟩
abbrev S16384x9216 : Shape := ⟨2, ![16384, 9216]⟩
abbrev S4x4096x2048 : Shape := ⟨3, ![4, 4096, 2048]⟩
abbrev S1536x2048 : Shape := ⟨2, ![1536, 2048]⟩
abbrev S512x2048 : Shape := ⟨2, ![512, 2048]⟩
abbrev S2048x2048 : Shape := ⟨2, ![2048, 2048]⟩
abbrev S2048 : Shape := ⟨1, ![2048]⟩
abbrev S4x4096x9216 : Shape := ⟨3, ![4, 4096, 9216]⟩
abbrev S16384x2048 : Shape := ⟨2, ![16384, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1536, .bf16⟩
  | .hbm, ⟨1, _⟩ => ⟨S4x4096x512, .bf16⟩
  | .hbm, ⟨2, _⟩ => ⟨S16384x9216, .bf16⟩
  | .hbm, ⟨3, _⟩ => ⟨S4x4096x2048, .f32⟩
  | .hbm, ⟨4, _⟩ => ⟨S1536x2048, .f32⟩
  | .hbm, ⟨5, _⟩ => ⟨S512x2048, .f32⟩
  | .hbm, ⟨6, _⟩ => ⟨S2048x2048, .f32⟩
  | .hbm, ⟨7, _⟩ => ⟨S2048, .f32⟩
  | .hbm, ⟨8, _⟩ => ⟨S16384x9216, .f32⟩
  | .hbm, ⟨9, _⟩ => ⟨S4x4096x9216, .f32⟩
  | .hbm, ⟨10, _⟩ => ⟨S4x4096x2048, .f32⟩
  | .hbm, ⟨11, _⟩ => ⟨S4x4096x2048, .f32⟩
  | .hbm, ⟨12, _⟩ => ⟨S4x4096x1536, .f32⟩
  | .hbm, ⟨13, _⟩ => ⟨S4x4096x2048, .f32⟩
  | .hbm, ⟨14, _⟩ => ⟨S4x4096x512, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S16384x2048, .f32⟩
  | .hbm, ⟨22, _⟩ => ⟨S4x4096x2048, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x2048, .f32⟩
  | .hbm, ⟨34, _⟩ => ⟨S4x4096x2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | .hbm, ⟨38, _⟩ => ⟨S16384x2048, .f32⟩
  | .hbm, ⟨39, _⟩ => ⟨S16384x2048, .bf16⟩
  | _, _ => ⟨S4x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Mix.lean ====
abbrev S16384x9216 : Shape := ⟨2, ![16384, 9216]⟩
abbrev S128 : Shape := ⟨1, ![128]⟩
abbrev S256 : Shape := ⟨1, ![256]⟩
abbrev S4x4096x512 : Shape := ⟨3, ![4, 4096, 512]⟩
abbrev S4x4096x2048 : Shape := ⟨3, ![4, 4096, 2048]⟩
abbrev S1536x2048 : Shape := ⟨2, ![1536, 2048]⟩
abbrev S512x2048 : Shape := ⟨2, ![512, 2048]⟩
abbrev S2048x2048 : Shape := ⟨2, ![2048, 2048]⟩
abbrev S2048 : Shape := ⟨1, ![2048]⟩
abbrev S4x4096x9216 : Shape := ⟨3, ![4, 4096, 9216]⟩
abbrev S1x128 : Shape := ⟨2, ![1, 128]⟩
abbrev S4x128 : Shape := ⟨2, ![4, 128]⟩
abbrev S1x256 : Shape := ⟨2, ![1, 256]⟩
abbrev S4x4096x1536 : Shape := ⟨3, ![4, 4096, 1536]⟩
abbrev S1x256x256 : Shape := ⟨3, ![1, 256, 256]⟩
abbrev S1x4096x256 : Shape := ⟨3, ![1, 4096, 256]⟩
abbrev S1 : Shape := ⟨1, ![1]⟩
abbrev S1x1 : Shape := ⟨2, ![1, 1]⟩
abbrev S256x256 : Shape := ⟨2, ![256, 256]⟩
abbrev S4096x256 : Shape := ⟨2, ![4096, 256]⟩
abbrev S256x128 : Shape := ⟨2, ![256, 128]⟩
abbrev S4096x128 : Shape := ⟨2, ![4096, 128]⟩
abbrev S256x4096 : Shape := ⟨2, ![256, 4096]⟩
abbrev S256x1 : Shape := ⟨2, ![256, 1]⟩
abbrev S16384x1536 : Shape := ⟨2, ![16384, 1536]⟩
abbrev S16384x512 : Shape := ⟨2, ![16384, 512]⟩
abbrev S16384x2048 : Shape := ⟨2, ![16384, 2048]⟩
abbrev S1x2048 : Shape := ⟨2, ![1, 2048]⟩
abbrev S512x1536 : Shape := ⟨2, ![512, 1536]⟩
abbrev S512x512 : Shape := ⟨2, ![512, 512]⟩
abbrev S512x1024 : Shape := ⟨2, ![512, 1024]⟩
abbrev S1536x1024 : Shape := ⟨2, ![1536, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 29
  | .vmem => 32
  | .smem => 0
  | _ => 0

abbrev bufTy : (tb : Table) → Fin (tcTables nBuf tb) → BufTy
  | .hbm, ⟨0, _⟩ => ⟨S16384x9216, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S4x4096x512, .bf16⟩
  | .hbm, ⟨7, _⟩ => ⟨S4x4096x2048, .f32⟩
  | .hbm, ⟨8, _⟩ => ⟨S1536x2048, .f32⟩
  | .hbm, ⟨9, _⟩ => ⟨S512x2048, .f32⟩
  | .hbm, ⟨10, _⟩ => ⟨S2048x2048, .f32⟩
  | .hbm, ⟨11, _⟩ => ⟨S2048, .f32⟩
  | .hbm, ⟨12, _⟩ => ⟨S4x4096x9216, .bf16⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S4x128, .f32⟩
  | .hbm, ⟨18, _⟩ => ⟨S1x256, .f32⟩
  | .hbm, ⟨19, _⟩ => ⟨S4x4096x1536, .bf16⟩
  | .hbm, ⟨20, _⟩ => ⟨S16384x1536, .bf16⟩
  | .hbm, ⟨21, _⟩ => ⟨S16384x512, .bf16⟩
  | .hbm, ⟨22, _⟩ => ⟨S16384x2048, .f32⟩
  | .hbm, ⟨23, _⟩ => ⟨S1536x2048, .bf16⟩
  | .hbm, ⟨24, _⟩ => ⟨S512x2048, .bf16⟩
  | .hbm, ⟨25, _⟩ => ⟨S2048x2048, .bf16⟩
  | .hbm, ⟨26, _⟩ => ⟨S1x2048, .f32⟩
  | .hbm, ⟨27, _⟩ => ⟨S16384x2048, .f32⟩
  | .hbm, ⟨28, _⟩ => ⟨S16384x2048, .bf16⟩
  | .local _ .vmem, ⟨0, _⟩ => ⟨S4x128, .f32⟩
  | .local _ .vmem, ⟨1, _⟩ => ⟨S1x256, .f32⟩
  | .local _ .vmem, ⟨2, _⟩ => ⟨S1x256x256, .bf16⟩
  | .local _ .vmem, ⟨3, _⟩ => ⟨S1x256x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x256, .bf16⟩
  | .local _ .vmem, ⟨9, _⟩ => ⟨S1x256x256, .bf16⟩
  | .local _ .vmem, ⟨10, _⟩ => ⟨S512x1536, .bf16⟩
  | .local _ .vmem, ⟨11, _⟩ => ⟨S512x1536, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x2048, .f32⟩
  | .local _ .vmem, ⟨23, _⟩ => ⟨S512x2048, .f32⟩
  | .local _ .vmem, ⟨24, _⟩ => ⟨S1536x2048, .bf16⟩
  | .local _ .vmem, ⟨25, _⟩ => ⟨S512x2048, .bf16⟩
  | .local _ .vmem, ⟨26, _⟩ => ⟨S2048x2048, .bf16⟩
  | .local _ .vmem, ⟨27, _⟩ => ⟨S1x2048, .f32⟩
  | .local _ .vmem, ⟨28, _⟩ => ⟨S512x2048, .f32⟩
  | .local _ .vmem, ⟨29, _⟩ => ⟨S512x2048, .f32⟩
  | .local _ .vmem, ⟨30, _⟩ => ⟨S512x2048, .bf16⟩
  | .local _ .vmem, ⟨31, _⟩ => ⟨S512x2048, .bf16⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc1_sem12_0 : DmaSem sig := 30
abbrev cc1_sem12_1 : DmaSem sig := 31

abbrev nD : Nat := 1
abbrev τ : Topo := Topo.v7x

variable {F : FTy → Type} [FloatOps F]

abbrev grid0 : Pipeline.Grid := ⟨3, ![4, 6, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_3 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_4 (i : grid1.Coords) : Fin 2 → Nat :=
  let arg0 : BitVec 32 := BitVec.ofNat 32 (i 0).val
  let c7_i32 : BitVec 32 := 7#32
  let c0_i32 : BitVec 32 := 0#32
  ![arg0.toNat, c7_i32.toNat]

def cc1_transform_5 (i : grid1.Coords) : Fin 2 → Nat :=
  let arg0 : BitVec 32 := BitVec.ofNat 32 (i 0).val
  let c8_i32 : BitVec 32 := 8#32
  let c0_i32 : BitVec 32 := 0#32
  ![arg0.toNat, c8_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1536x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2048x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== MixReferenceIdeal.lean ====
abbrev S16384x9216 : Shape := ⟨2, ![16384, 9216]⟩
abbrev S128 : Shape := ⟨1, ![128]⟩
abbrev S256 : Shape := ⟨1, ![256]⟩
abbrev S4x4096x512 : Shape := ⟨3, ![4, 4096, 512]⟩
abbrev S4x4096x2048 : Shape := ⟨3, ![4, 4096, 2048]⟩
abbrev S1536x2048 : Shape := ⟨2, ![1536, 2048]⟩
abbrev S512x2048 : Shape := ⟨2, ![512, 2048]⟩
abbrev S2048x2048 : Shape := ⟨2, ![2048, 2048]⟩
abbrev S2048 : Shape := ⟨1, ![2048]⟩
abbrev S4x4096x9216 : Shape := ⟨3, ![4, 4096, 9216]⟩
abbrev S_ : Shape := ⟨0, ![]⟩
abbrev S4x4096x1536 : Shape := ⟨3, ![4, 4096, 1536]⟩
abbrev S4x4096x6x2x128 : Shape := ⟨5, ![4, 4096, 6, 2, 128]⟩
abbrev S4x4096x6x256 : Shape := ⟨4, ![4, 4096, 6, 256]⟩
abbrev S4x6x2x4096x4096 : Shape := ⟨5, ![4, 6, 2, 4096, 4096]⟩
abbrev S4x6x2x4096 : Shape := ⟨4, ![4, 6, 2, 4096]⟩
abbrev S4x6x2x4096x1 : Shape := ⟨5, ![4, 6, 2, 4096, 1]⟩
abbrev S4x6x1x4096x4096 : Shape := ⟨5, ![4, 6, 1, 4096, 4096]⟩
abbrev S4x6x4096x4096 : Shape := ⟨4, ![4, 6, 4096, 4096]⟩
abbrev S4x6x256x4096 : Shape := ⟨4, ![4, 6, 256, 4096]⟩
abbrev S4x4096x6 : Shape := ⟨3, ![4, 4096, 6]⟩
abbrev S4x4096x6x1 : Shape := ⟨4, ![4, 4096, 6, 1]⟩
abbrev S1x1x1x256 : Shape := ⟨4, ![1, 1, 1, 256]⟩
abbrev S16384x2048 : Shape := ⟨2, ![16384, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 106
  | .vmem => 0
  | .smem => 0
  | _ => 0

abbrev bufTy : (tb : Table) → Fin (tcTables nBuf tb) → BufTy
  | .hbm, ⟨0, _⟩ => ⟨S16384x9216, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S4x4096x512, .bf16⟩
  | .hbm, ⟨7, _⟩ => ⟨S4x4096x2048, .f32⟩
  | .hbm, ⟨8, _⟩ => ⟨S1536x2048, .f32⟩
  | .hbm, ⟨9, _⟩ => ⟨S512x2048, .f32⟩
  | .hbm, ⟨10, _⟩ => ⟨S2048x2048, .f32⟩
  | .hbm, ⟨11, _⟩ => ⟨S2048, .f32⟩
  | .hbm, ⟨12, _⟩ => ⟨S4x4096x9216, .bf16⟩
  | .hbm, ⟨13, _⟩ => ⟨S4x4096x9216, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x1536, .f32⟩
  | .hbm, ⟨26, _⟩ => ⟨S4x4096x6x2x128, .f32⟩
  | .hbm, ⟨27, _⟩ => ⟨S4x4096x1536, .f32⟩
  | .hbm, ⟨28, _⟩ => ⟨S4x4096x6x2x128, .f32⟩
  | .hbm, ⟨29, _⟩ => ⟨S4x4096x1536, .f32⟩
  | .hbm, ⟨30, _⟩ => ⟨S4x4096x6x256, .f32⟩
  | .hbm, ⟨31, _⟩ => ⟨S4x6x2x4096x4096, .f32⟩
  | .hbm, ⟨32, _⟩ => ⟨S_, .f32⟩
  | .hbm, ⟨33, _⟩ => ⟨S4x6x2x4096, .f32⟩
  | .hbm, ⟨34, _⟩ => ⟨S_, .f32⟩
  | .hbm, ⟨35, _⟩ => ⟨S4x6x2x4096, .f32⟩
  | .hbm, ⟨36, _⟩ => ⟨S4x6x2x4096, .f32⟩
  | .hbm, ⟨37, _⟩ => ⟨S4x6x2x4096x1, .f32⟩
  | .hbm, ⟨38, _⟩ => ⟨S4x6x2x4096x4096, .f32⟩
  | .hbm, ⟨39, _⟩ => ⟨S4x6x2x4096x4096, .f32⟩
  | .hbm, ⟨40, _⟩ => ⟨S4x6x2x4096x4096, .f32⟩
  | .hbm, ⟨41, _⟩ => ⟨S_, .f32⟩
  | .hbm, ⟨42, _⟩ => ⟨S4x6x2x4096, .f32⟩
  | .hbm, ⟨43, _⟩ => ⟨S4x6x2x4096x1, .f32⟩
  | .hbm, ⟨44, _⟩ => ⟨S4x6x2x4096x4096, .f32⟩
  | .hbm, ⟨45, _⟩ => ⟨S4x6x2x4096x4096, .f32⟩
  | .hbm, ⟨46, _⟩ => ⟨S4x6x1x4096x4096, .f32⟩
  | .hbm, ⟨47, _⟩ => ⟨S4x6x4096x4096, .f32⟩
  | .hbm, ⟨48, _⟩ => ⟨S4x6x1x4096x4096, .f32⟩
  | .hbm, ⟨49, _⟩ => ⟨S4x6x4096x4096, .f32⟩
  | .hbm, ⟨50, _⟩ => ⟨S4x6x4096x4096, .f32⟩
  | .hbm, ⟨51, _⟩ => ⟨S4x6x4096x4096, .f32⟩
  | .hbm, ⟨52, _⟩ => ⟨S4x6x4096x4096, .f32⟩
  | .hbm, ⟨53, _⟩ => ⟨S4x6x256x4096, .f32⟩
  | .hbm, ⟨54, _⟩ => ⟨S4x4096x6x256, .f32⟩
  | .hbm, ⟨55, _⟩ => ⟨S4x4096x6x256, .f32⟩
  | .hbm, ⟨56, _⟩ => ⟨S_, .f32⟩
  | .hbm, ⟨57, _⟩ => ⟨S4x4096x6, .f32⟩
  | .hbm, ⟨58, _⟩ => ⟨S4x4096x6x1, .f32⟩
  | .hbm, ⟨59, _⟩ => ⟨S_, .f32⟩
  | .hbm, ⟨60, _⟩ => ⟨S4x4096x6x1, .f32⟩
  | .hbm, ⟨61, _⟩ => ⟨S4x4096x6x1, .f32⟩
  | .hbm, ⟨62, _⟩ => ⟨S_, .f32⟩
  | .hbm, ⟨63, _⟩ => ⟨S4x4096x6x1, .f32⟩
  | .hbm, ⟨64, _⟩ => ⟨S4x4096x6x1, .f32⟩
  | .hbm, ⟨65, _⟩ => ⟨S4x4096x6x1, .f32⟩
  | .hbm, ⟨66, _⟩ => ⟨S4x4096x6x256, .f32⟩
  | .hbm, ⟨67, _⟩ => ⟨S4x4096x6x256, .f32⟩
  | .hbm, ⟨68, _⟩ => ⟨S1x1x1x256, .f32⟩
  | .hbm, ⟨69, _⟩ => ⟨S4x4096x6x256, .f32⟩
  | .hbm, ⟨70, _⟩ => ⟨S4x4096x6x256, .f32⟩
  | .hbm, ⟨71, _⟩ => ⟨S_, .f32⟩
  | .hbm, ⟨72, _⟩ => ⟨S4x4096x6x256, .f32⟩
  | .hbm, ⟨73, _⟩ => ⟨S4x4096x6x256, .f32⟩
  | .hbm, ⟨74, _⟩ => ⟨S4x4096x1536, .f32⟩
  | .hbm, ⟨75, _⟩ => ⟨S16384x9216, .f32⟩
  | .hbm, ⟨76, _⟩ => ⟨S4x4096x9216, .f32⟩
  | .hbm, ⟨77, _⟩ => ⟨S4x4096x2048, .f32⟩
  | .hbm, ⟨78, _⟩ => ⟨S4x4096x2048, .f32⟩
  | .hbm, ⟨79, _⟩ => ⟨S4x4096x2048, .f32⟩
  | .hbm, ⟨80, _⟩ => ⟨S4x4096x512, .f32⟩
  | .hbm, ⟨81, _⟩ => ⟨S4x4096x2048, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | .hbm, ⟨85, _⟩ => ⟨S4x4096x2048, .f32⟩
  | .hbm, ⟨86, _⟩ => ⟨S4x4096x2048, .f32⟩
  | .hbm, ⟨87, _⟩ => ⟨S16384x2048, .f32⟩
  | .hbm, ⟨88, _⟩ => ⟨S4x4096x2048, .f32⟩
  | .hbm, ⟨89, _⟩ => ⟨S_, .f32⟩
  | .hbm, ⟨90, _⟩ => ⟨S4x4096, .f32⟩
  | .hbm, ⟨91, _⟩ => ⟨S4x4096x1, .f32⟩
  | .hbm, ⟨92, _⟩ => ⟨S_, .f32⟩
  | .hbm, ⟨93, _⟩ => ⟨S4x4096x1, .f32⟩
  | .hbm, ⟨94, _⟩ => ⟨S4x4096x1, .f32⟩
  | .hbm, ⟨95, _⟩ => ⟨S_, .f32⟩
  | .hbm, ⟨96, _⟩ => ⟨S4x4096x1, .f32⟩
  | .hbm, ⟨97, _⟩ => ⟨S4x4096x1, .f32⟩
  | .hbm, ⟨98, _⟩ => ⟨S4x4096x1, .f32⟩
  | .hbm, ⟨99, _⟩ => ⟨S4x4096x2048, .f32⟩
  | .hbm, ⟨100, _⟩ => ⟨S4x4096x2048, .f32⟩
  | .hbm, ⟨101, _⟩ => ⟨S1x1x2048, .f32⟩
  | .hbm, ⟨102, _⟩ => ⟨S4x4096x2048, .f32⟩
  | .hbm, ⟨103, _⟩ => ⟨S4x4096x2048, .f32⟩
  | .hbm, ⟨104, _⟩ => ⟨S16384x2048, .f32⟩
  | .hbm, ⟨105, _⟩ => ⟨S16384x2048, .bf16⟩
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Proof.AttnRow.lean ====
/- One row of differential attention over the extended reals: the formula that the kernel and the reference both compute. -/
module

public import Idealize.ShloMosaic.PureOps.Ideal
public import Idealize.ShloMosaic.Lib.Pointwise

@[expose] public section

noncomputable section

namespace Cert.AttnRow

open Idealize.ShloMosaic

/-- The score of a query row against key row `k`: their inner product. -/
def score (q : Fin 128 → EReal) (K : Fin 4096 → Fin 128 → EReal) (k : Fin 4096) : EReal :=
  ∑ d : Fin 128, q d * K k d

/-- The largest score of the row. -/
def top (s : Fin 4096 → EReal) : EReal :=
  Finset.univ.fold max (Ideal.ofBits .f32 0xFF800000#32) s

/-- The row's exponentials, each taken relative to the largest score. -/
def expo (s : Fin 4096 → EReal) (k : Fin 4096) : EReal := Ideal.exp (s k - top s)

/-- The softmax of a row of scores. -/
def soft (s : Fin 4096 → EReal) (k : Fin 4096) : EReal := Ideal.div (expo s k) (∑ l, expo s l)

/-- The difference of the two softmaxes applied to the values: one row of the head's output before its norm. -/
def mix (lam : EReal) (s₀ s₁ : Fin 4096 → EReal) (V : Fin 4096 → Fin 256 → EReal) (e : Fin 256) : EReal :=
  ∑ k, (soft s₀ k - lam * soft s₁ k) * V k e

/-- The root mean square norm of a head's row, times the gain and `1 - lambda_init`. -/
def normed (o : Fin 256 → EReal) (g : Fin 256 → EReal) (e : Fin 256) : EReal :=
  o e * Ideal.rsqrt (Ideal.div (∑ j, o j * o j) (Ideal.ofBits .f32 0x43800000#32) + Ideal.ofBits .f32 0x3727C5AC#32)
    * g e * Ideal.ofBits .f32 0x3F4CCCCD#32

/-- The weight of the second softmax, from the four vectors. -/
def lambda (a b c d : Fin 128 → EReal) : EReal :=
  Ideal.exp (∑ i, a i * b i) - Ideal.exp (∑ i, c i * d i) + Ideal.ofBits .f32 0x3E4CCCCD#32

/-- An extended real that is neither infinity. -/
def Finite (x : EReal) : Prop := x ≠ ⊤ ∧ x ≠ ⊥

/-- A sum of two finite numbers is finite. -/
theorem finite_add {x y : EReal} (hx : Finite x) (hy : Finite y) : Finite (x + y) := by
  rw [← EReal.coe_toReal hx.1 hx.2, ← EReal.coe_toReal hy.1 hy.2, ← EReal.coe_add]
  exact ⟨EReal.coe_ne_top _, EReal.coe_ne_bot _⟩

/-- A sum of finite numbers is finite. -/
theorem finite_sum {n : Nat} (f : Fin n → EReal) (h : ∀ i, Finite (f i)) : Finite (∑ i, f i) :=
  Finset.sum_induction f Finite (fun _ _ => finite_add) ⟨EReal.zero_ne_top, EReal.zero_ne_bot⟩ fun i _ => h i

/-- A product of finite numbers is finite. -/
theorem finite_mul {x y : EReal} (hx : Finite x) (hy : Finite y) : Finite (x * y) := by
  rw [← EReal.coe_toReal hx.1 hx.2, ← EReal.coe_toReal hy.1 hy.2, ← EReal.coe_mul]
  exact ⟨EReal.coe_ne_top _, EReal.coe_ne_bot _⟩

/-- Finite queries and keys have finite scores. -/
theorem finite_score (q : Fin 128 → EReal) (K : Fin 4096 → Fin 128 → EReal) (hq : ∀ d, Finite (q d))
    (hK : ∀ k d, Finite (K k d)) (k : Fin 4096) : Finite (score q K k) :=
  finite_sum _ fun d => finite_mul (hq d) (hK k d)

/-- The pattern that a maximum starts from is the least extended real. -/
theorem least : Ideal.ofBits .f32 0xFF800000#32 = ⊥ := by simp [Ideal.ofBits, Ideal.ieee]

/-- The pattern of one. -/
theorem one : Ideal.ofBits .f32 0x3F800000#32 = 1 := by
  simp [Ideal.ofBits, Ideal.ieee, -EReal.coe_mul]; norm_num

/-- The largest of finite scores is finite. -/
theorem finite_top (s : Fin 4096 → EReal) (h : ∀ k, Finite (s k)) : Finite (top s) := by
  rw [top, least]
  refine ⟨ne_of_lt ?_, ne_of_gt ?_⟩
  · exact (Finset.fold_max_lt _).mpr ⟨bot_lt_top, fun k _ => lt_top_iff_ne_top.mpr (h k).1⟩
  · exact lt_of_lt_of_le (bot_lt_iff_ne_bot.mpr (h ⟨0, by norm_num⟩).2)
      ((Finset.le_fold_max _).mpr (Or.inr ⟨⟨0, by norm_num⟩, Finset.mem_univ _, le_rfl⟩))

/-- An exponential is not negative. -/
theorem exp_nonneg (x : EReal) : 0 ≤ Ideal.exp x := by
  induction x with
  | bot => exact le_rfl
  | top => exact le_top
  | coe r => exact EReal.coe_nonneg.mpr (Real.exp_pos r).le

/-- The exponential of a finite number is positive. -/
theorem exp_pos (x : EReal) (h : Finite x) : 0 < Ideal.exp x := by
  rw [← EReal.coe_toReal h.1 h.2]
  exact EReal.coe_pos.mpr (Real.exp_pos _)

/-- The sum of a row's exponentials is not zero when its scores are finite. -/
theorem sum_ne_zero (s : Fin 4096 → EReal) (h : ∀ k, Finite (s k)) : (∑ l, expo s l) ≠ 0 := by
  have f : Finite (s ⟨0, by norm_num⟩ - top s) := by
    have t := finite_top s h
    have u := h ⟨0, by norm_num⟩
    rw [← EReal.coe_toReal t.1 t.2, ← EReal.coe_toReal u.1 u.2, ← EReal.coe_sub]
    exact ⟨EReal.coe_ne_top _, EReal.coe_ne_bot _⟩
  exact ne_of_gt (lt_of_lt_of_le (exp_pos _ f)
    (Finset.single_le_sum (f := fun l => expo s l) (fun l _ => exp_nonneg _) (Finset.mem_univ (⟨0, by norm_num⟩ : Fin 4096))))

/-- Multiplying by a quotient by a divisor that is not zero. -/
theorem mul_div (e a l : EReal) (h : l ≠ 0) : e * Ideal.div a l = a * Ideal.div e l := by
  rw [Ideal.div, if_neg h, Ideal.div, if_neg h]
  ac_rfl

end Cert.AttnRow

end
-- ==== Proof.AttnKernel.lean ====
/- What the attention kernel stores at an index of its block, from the blocks it loads. -/
module

public import proofs.«01_k».proof.Proof.Gen.KernelIdeal.Skeleton
public import proofs.«01_k».proof.Proof.AttnRow
public import Idealize.ShloMosaic.Lib.Pointwise

@[expose] public section

set_option maxRecDepth 16384

noncomputable section

namespace Cert.AttnKernel

open Idealize.ShloMosaic Cert.KernelIdeal Cert.KernelIdeal.Gen Cert.AttnRow

/-- A reduction by maximum along the rows, at a row. -/
theorem vector_max {n₀ n₁ : Nat} (v : FVec Ideal ⟨2, ![n₀, n₁]⟩ .f32) (w : BitVec 32)
    (r : (⟨2, ![n₀, n₁]⟩ : Shape).Reduces [1] ⟨1, ![n₀]⟩) (hw) (hφ) (a : Fin n₀) :
    multiReduction .maximumf [1] ⟨1, ![n₀]⟩ v w r hw hφ (ix1 a)
      = Finset.univ.fold max (Ideal.ofBits .f32 w) (fun k => v (ix2 a k)) := by
  pointwise

/-- The scores of a block of queries. -/
def scores (q : FVec Ideal S256x128 .bf16) (k : FVec Ideal S4096x128 .bf16) : FVec Ideal S256x4096 .f32 :=
  matmul dot_S256x128_S4096x128_S256x4096_1_1_0_0_n_n none q k (constant S256x4096 .f32 0x00000000#32)

/-- The exponentials of a block of scores. -/
def expos (s : FVec Ideal S256x4096 .f32) : FVec Ideal S256x4096 .f32 :=
  exp (subf s (broadcastTo S256x4096 (shapeCast S256x1
    (multiReduction .maximumf [1] S256 s 0xFF800000#32 reduces_S256x4096_S256 (.inl rfl) rfl) shapeCasts_S256_S256x1)
    broadcasts_S256x1_S256x4096))

/-- The sums of a block's rows. -/
def sums (e : FVec Ideal S256x4096 .f32) : FVec Ideal S256x1 .f32 :=
  shapeCast S256x1 (multiReduction .add [1] S256 e 0x00000000#32 reduces_S256x4096_S256 (.inl rfl) rfl) shapeCasts_S256_S256x1

/-- The exponentials times a quotient by their sums. -/
def scaled (a : FVec Ideal S256x1 .f32) (e : FVec Ideal S256x4096 .f32) : FVec Ideal S256x4096 .f32 :=
  mulf e (broadcastTo S256x4096 (divf a (sums e)) broadcasts_S256x1_S256x4096)

theorem scores_at (q : FVec Ideal S256x128 .bf16) (k : FVec Ideal S4096x128 .bf16) (r : Fin 256) (j : Fin 4096) :
    scores q k (ix2 r j) = score (fun d => q (ix2 r d)) (fun j d => k (ix2 j d)) j := by
  pointwise [scores, score]

theorem expos_at (s : FVec Ideal S256x4096 .f32) (r : Fin 256) (k : Fin 4096) :
    expos s (ix2 r k) = expo (fun k => s (ix2 r k)) k := by
  have h := vector_max s 0xFF800000#32 reduces_S256x4096_S256 (.inl rfl) rfl r
  rw [expos, expo, top, ← h]
  generalize multiReduction .maximumf [1] S256 s 0xFF800000#32 reduces_S256x4096_S256 (.inl rfl) rfl = y
  pointwise

theorem sums_at (e : FVec Ideal S256x4096 .f32) (r : Fin 256) :
    sums e (ix2 r 0) = ∑ k, e (ix2 r k) := by
  pointwise [sums]

theorem scaled_at (a : FVec Ideal S256x1 .f32) (s : FVec Ideal S256x4096 .f32) (r : Fin 256) (k : Fin 4096)
    (h : ∀ k, Finite (s (ix2 r k))) :
    scaled a (expos s) (ix2 r k) = a (ix2 r 0) * soft (fun k => s (ix2 r k)) k := by
  have e : scaled a (expos s) (ix2 r k)
      = expos s (ix2 r k) * Ideal.div (a (ix2 r 0)) (sums (expos s) (ix2 r 0)) := by
    generalize expos s = y
    rw [scaled]
    generalize sums y = x
    pointwise
  rw [e, sums_at]
  simp only [expos_at]
  rw [mul_div _ _ _ (sum_ne_zero _ h), soft]

/-- The head's output rows, from the two blocks of weights. -/
def mixed (a b : FVec Ideal S256x4096 .f32) (v : FVec Ideal S4096x256 .bf16) : FVec Ideal S256x256 .f32 :=
  matmul dot_S256x4096_S4096x256_S256x256_1_0_0_1_n_n none (truncf .bf16 (subf a b) bitsLt_bf16_f32) v
    (constant S256x256 .f32 0x00000000#32)

theorem mixed_at (a b : FVec Ideal S256x4096 .f32) (v : FVec Ideal S4096x256 .bf16) (r e : Fin 256) :
    mixed a b v (ix2 r e) = ∑ k : Fin 4096, (a (ix2 r k) - b (ix2 r k)) * v (ix2 k e) := by
  pointwise [mixed]

/-- The norm of a block's rows, with the gain and the last factor. -/
def norms (o : FVec Ideal S256x256 .f32) (g : FVec Ideal S1x256 .f32) : FVec Ideal S1x256x256 .bf16 :=
  shapeCast S1x256x256 (truncf .bf16 (mulf (mulf o (broadcastTo S256x256 (rsqrt (addf (divf
    (shapeCast S256x1 (multiReduction .add [1] S256 (mulf o o) 0x00000000#32 reduces_S256x256_S256 (.inl rfl) rfl)
      shapeCasts_S256_S256x1)
    (broadcast S256x1 (Scalar.ofBits .f32 0x43800000#32))) (broadcast S256x1 (Scalar.ofBits .f32 0x3727C5AC#32))))
    broadcasts_S256x1_S256x256))
    (broadcastTo S256x256 (mulf (shapeCast S1x256 g shapeCasts_S1x256_S1x256)
      (broadcast S1x256 (Scalar.ofBits .f32 0x3F4CCCCD#32))) broadcasts_S1x256_S256x256)) bitsLt_bf16_f32)
    shapeCasts_S256x256_S1x256x256

theorem norms_at (o : FVec Ideal S256x256 .f32) (g : FVec Ideal S1x256 .f32) (r e : Fin 256) :
    norms o g (ix3 0 r e) = normed (fun e => o (ix2 r e)) (fun e => g (ix2 0 e)) e := by
  have h : norms o g (ix3 0 r e)
      = o (ix2 r e) * Ideal.rsqrt (Ideal.div (∑ j, o (ix2 r j) * o (ix2 r j)) (Ideal.ofBits .f32 0x43800000#32)
          + Ideal.ofBits .f32 0x3727C5AC#32)
        * (g (ix2 0 e) * Ideal.ofBits .f32 0x3F4CCCCD#32) := by
    pointwise [norms]
  rw [h, normed, mul_assoc _ (g (ix2 0 e))]

/-- The weight of the second softmax, from its block of four rows. -/
theorem weight_at (v : FVec Ideal S4x128 .f32) :
    k0_pay2 (F := Ideal) v (ix2 0 0)
      = lambda (fun i => v (ix2 0 i)) (fun i => v (ix2 1 i)) (fun i => v (ix2 2 i)) (fun i => v (ix2 3 i)) := by
  pointwise [k0_pay2, lambda]

theorem pay1_eq (l : FVec Ideal S1x1 .f32) (v : FVec Ideal S4096x256 .bf16) (p : FVec Ideal S256x4096 .f32)
    (q : FVec Ideal S256x128 .bf16) (k : FVec Ideal S4096x128 .bf16) (g : FVec Ideal S1x256 .f32) :
    k0_pay1 l v p q k g
      = norms (mixed p (scaled (broadcastTo S256x1 l broadcasts_S1x1_S256x1) (expos (scores q k))) v) g := rfl

theorem pay6_eq (q : FVec Ideal S1x256x256 .bf16) (k : FVec Ideal S1x4096x256 .bf16) :
    k0_pay6 q k
      = scaled (broadcast S256x1 (Scalar.ofBits .f32 0x3F800000#32)) (expos (scores
          (extractStridedSlice S256x128 ![0, 0] (k0_pay3 q) slices_S256x256_o0_0_S256x128)
          (extractStridedSlice S4096x128 ![0, 0] (k0_pay4 k) slices_S4096x256_o0_0_S4096x128))) := rfl

/-- The first half of a block of queries. -/
theorem query₀ (q : FVec Ideal S1x256x256 .bf16) (r : Fin 256) (d : Fin 128) :
    extractStridedSlice S256x128 ![0, 0] (k0_pay3 q) slices_S256x256_o0_0_S256x128 (ix2 r d)
      = q (ix3 0 r ⟨d.val, by omega⟩) := by
  pointwise [k0_pay3]
/-- The first half of the keys. -/
theorem key₀ (k : FVec Ideal S1x4096x256 .bf16) (j : Fin 4096) (d : Fin 128) :
    extractStridedSlice S4096x128 ![0, 0] (k0_pay4 k) slices_S4096x256_o0_0_S4096x128 (ix2 j d)
      = k (ix3 0 j ⟨d.val, by omega⟩) := by
  pointwise [k0_pay4]
/-- The second half of a block of queries. -/
theorem query₁ (q : FVec Ideal S1x256x256 .bf16) (r : Fin 256) (d : Fin 128) :
    k0_pay7 q (ix2 r d) = q (ix3 0 r ⟨128 + d.val, by omega⟩) := by
  pointwise [k0_pay7, k0_pay3]
/-- The second half of the keys. -/
theorem key₁ (k : FVec Ideal S1x4096x256 .bf16) (j : Fin 4096) (d : Fin 128) :
    k0_pay8 k (ix2 j d) = k (ix3 0 j ⟨128 + d.val, by omega⟩) := by
  pointwise [k0_pay8, k0_pay4]
/-- The values. -/
theorem value (v : FVec Ideal S1x4096x256 .bf16) (j : Fin 4096) (e : Fin 256) :
    k0_pay5 v (ix2 j e) = v (ix3 0 j e) := by
  pointwise [k0_pay5]

/-- The scores of row `r` of a block under the first half of the head. -/
abbrev S₀ (q : FVec Ideal S1x256x256 .bf16) (k : FVec Ideal S1x4096x256 .bf16) (r : Fin 256) : Fin 4096 → EReal :=
  score (fun d => q (ix3 0 r ⟨d.val, by omega⟩)) (fun j d => k (ix3 0 j ⟨d.val, by omega⟩))
/-- The scores of row `r` of a block under the second half of the head. -/
abbrev S₁ (q : FVec Ideal S1x256x256 .bf16) (k : FVec Ideal S1x4096x256 .bf16) (r : Fin 256) : Fin 4096 → EReal :=
  score (fun d => q (ix3 0 r ⟨128 + d.val, by omega⟩)) (fun j d => k (ix3 0 j ⟨128 + d.val, by omega⟩))

/-- WHAT THE KERNEL STORES: entry `e` of row `r` of its block, when the scores of the row are finite. -/
theorem stored_at (w : FVec Ideal S4x128 .f32) (g : FVec Ideal S1x256 .f32) (q : FVec Ideal S1x256x256 .bf16)
    (k v : FVec Ideal S1x4096x256 .bf16) (r e : Fin 256) (h₀ : ∀ j, Finite (S₀ q k r j)) (h₁ : ∀ j, Finite (S₁ q k r j)) :
    k0_pay1 (F := Ideal) (k0_pay2 w) (k0_pay5 v) (k0_pay6 q k) (k0_pay7 q) (k0_pay8 k) g (ix3 0 r e)
      = normed (mix (lambda (fun i => w (ix2 0 i)) (fun i => w (ix2 1 i)) (fun i => w (ix2 2 i)) (fun i => w (ix2 3 i)))
          (S₀ q k r) (S₁ q k r) (fun j e => v (ix3 0 j e))) (fun e => g (ix2 0 e)) e := by
  rw [pay1_eq, pay6_eq, norms_at]
  have e₀ : (fun j => scores (extractStridedSlice S256x128 ![0, 0] (k0_pay3 q) slices_S256x256_o0_0_S256x128)
      (extractStridedSlice S4096x128 ![0, 0] (k0_pay4 k) slices_S4096x256_o0_0_S4096x128) (ix2 r j)) = S₀ q k r := by
    funext j
    rw [scores_at]
    simp only [query₀, key₀]
  have e₁ : (fun j => scores (k0_pay7 q) (k0_pay8 k) (ix2 r j)) = S₁ q k r := by
    funext j
    rw [scores_at]
    simp only [query₁, key₁]
  have l : broadcastTo S256x1 (k0_pay2 (F := Ideal) w) broadcasts_S1x1_S256x1 (ix2 r 0) = k0_pay2 (F := Ideal) w (ix2 0 0) := by
    generalize k0_pay2 (F := Ideal) w = y
    pointwise
  have u : (broadcast S256x1 (Scalar.ofBits .f32 0x3F800000#32) : FVec Ideal S256x1 .f32) (ix2 r 0) = 1 := one
  congr 1
  funext e
  rw [mixed_at, mix]
  refine Finset.sum_congr rfl fun j _ => ?_
  rw [scaled_at _ _ r j (fun j => by rw [congrFun e₀ j]; exact h₀ j),
    scaled_at _ _ r j (fun j => by rw [congrFun e₁ j]; exact h₁ j), e₀, e₁, l, u, weight_at, one_mul, value]

end Cert.AttnKernel

end
-- ==== Proof.AttnRef.lean ====
/- What the reference of the attention computes, read at an index. -/
module

public import proofs.«01_k».proof.Proof.Gen.ReferenceIdeal.Read
public import proofs.«01_k».proof.Proof.AttnRow
public import Idealize.ShloMosaic.Lib.Pointwise

@[expose] public section

set_option maxRecDepth 16384

noncomputable section

namespace Cert.AttnRef

open Idealize.ShloMosaic Cert.ReferenceIdeal Cert.ReferenceIdeal.Read Cert.AttnRow

variable (z : FVec Ideal S4x4096x9216 .bf16) (a₁ a₂ a₃ a₄ : FVec Ideal S128 .f32) (g : FVec Ideal S256 .f32)

/-- Component `c` of head `h`'s query row `s` of batch `b`. -/
def Q (b : Fin 4) (h : Fin 6) (c : Fin 2) (s : Fin 4096) (d : Fin 128) : EReal :=
  z (ix3 b s ⟨h.val * 256 + c.val * 128 + d.val, by omega⟩)
/-- Component `c` of head `h`'s key row `s` of batch `b`. -/
def K (b : Fin 4) (h : Fin 6) (c : Fin 2) (s : Fin 4096) (d : Fin 128) : EReal :=
  z (ix3 b s ⟨1536 + (h.val * 256 + c.val * 128 + d.val), by omega⟩)
/-- Head `h`'s value row `s` of batch `b`. -/
def V (b : Fin 4) (h : Fin 6) (s : Fin 4096) (e : Fin 256) : EReal :=
  z (ix3 b s ⟨3072 + (h.val * 256 + e.val), by omega⟩)
/-- The scores of query `q`. -/
def S (b : Fin 4) (h : Fin 6) (c : Fin 2) (q : Fin 4096) : Fin 4096 → EReal := score (Q z b h c q) (K z b h c)

theorem score_at (b : Fin 4) (h : Fin 6) (c : Fin 2) (q k : Fin 4096) :
    val_main_v15 (F := Ideal) z (ix5 b h c q k) = S z b h c q k := by
  pointwise [val_main_v15, val_main_v10, val_main_v12, val_main_v9, val_main_v11, val_main_v0, S, score, Q, K]

/-- The value rows at an index. -/
theorem value_at (b : Fin 4) (h : Fin 6) (s : Fin 4096) (e : Fin 256) :
    val_main_v14 (F := Ideal) z (ix4 b s h e) = V z b h s e := by
  pointwise [val_main_v14, val_main_v13, val_main_v0, V]

/-- A maximum that starts from `i` is at least `i`. -/
theorem max_fold {n : Nat} (i : EReal) (f : Fin n → EReal) :
    max i (Finset.univ.fold max i f) = Finset.univ.fold max i f :=
  max_eq_right (Finset.le_fold_max i |>.mpr (Or.inl le_rfl))

/-- A reduction by maximum over the last of five axes, at an index. -/
theorem host_max {n₀ n₁ n₂ n₃ n₄ : Nat} (v : FVec Ideal ⟨5, ![n₀, n₁, n₂, n₃, n₄]⟩ .f32) (w : FVec Ideal S_ .f32) (hS : 0 < S_.numel)
    (r : (⟨5, ![n₀, n₁, n₂, n₃, n₄]⟩ : Shape).ReducesTo [4] ⟨4, ![n₀, n₁, n₂, n₃]⟩)
    (a : Fin n₀) (b : Fin n₁) (c : Fin n₂) (d : Fin n₃) :
    Host.reduce FloatOps.maximumf v w r hS (ix4 a b c d)
      = Finset.univ.fold max (w ix0) (fun k => v (ix5 a b c d k)) := by
  have e : (Shape.Idx.first hS : S_.Idx) = ix0 := funext fun a => a.elim0
  pointwise [e]

/-- Dropping a unit axis in the middle, at an index. -/
theorem drop_unit {n₀ n₁ n₂ n₃ : Nat} (v : FVec Ideal ⟨5, ![n₀, n₁, 1, n₂, n₃]⟩ .f32)
    (r : (⟨5, ![n₀, n₁, 1, n₂, n₃]⟩ : Shape).ShapeCasts ⟨4, ![n₀, n₁, n₂, n₃]⟩)
    (a : Fin n₀) (b : Fin n₁) (c : Fin n₂) (d : Fin n₃) :
    shapeCast ⟨4, ![n₀, n₁, n₂, n₃]⟩ v r (ix4 a b c d) = v (ix5 a b 0 c d) := by
  refine shapeCast_apply v r _ _ ?_
  rewrite [Shape.rowMajor_val_five, Shape.rowMajor_val_four]
  show (((a.val * n₁ + b.val) * 1 + 0) * n₂ + c.val) * n₃ + d.val = ((a.val * n₁ + b.val) * n₂ + c.val) * n₃ + d.val
  rw [Nat.mul_one, Nat.add_zero]

/-- A constant's pattern, read ideally. -/
theorem bits (w : BitVec 32) : (FloatOps.ofBits .f32 w : Ideal .f32) = Ideal.ofBits .f32 w := rfl

theorem v16_at (b : Fin 4) (h : Fin 6) (c : Fin 2) (q : Fin 4096) :
    val_main_v16 (F := Ideal) z (ix4 b h c q)
      = Finset.univ.fold max (Ideal.ofBits .f32 0xFF800000#32) (fun k => val_main_v15 (F := Ideal) z (ix5 b h c q k)) := by
  rw [val_main_v16]
  generalize val_main_v15 (F := Ideal) z = y
  exact host_max y _ _ _ b h c q

theorem v18_at (b : Fin 4) (h : Fin 6) (c : Fin 2) (q : Fin 4096) :
    val_main_v18 (F := Ideal) z (ix4 b h c q)
      = max (Ideal.ofBits .f32 0xFF800000#32) (val_main_v16 (F := Ideal) z (ix4 b h c q)) := by
  rw [val_main_v18_apply, val_main_v17_apply, val_main_cst_3_apply, Ideal.maximumf_eq_max, bits]

/-- The row maximum. -/
theorem max_at (b : Fin 4) (h : Fin 6) (c : Fin 2) (q : Fin 4096) :
    val_main_v18 (F := Ideal) z (ix4 b h c q) = top (S z b h c q) := by
  have e : (fun k => val_main_v15 (F := Ideal) z (ix5 b h c q k)) = S z b h c q := funext fun k => score_at z b h c q k
  rw [v18_at, v16_at, e, max_fold, top]

/-- The exponentials. -/
theorem expo_at (b : Fin 4) (h : Fin 6) (c : Fin 2) (q k : Fin 4096) :
    val_main_v22 (F := Ideal) z (ix5 b h c q k) = expo (S z b h c q) k := by
  have r : val_main_v22 (F := Ideal) z (ix5 b h c q k)
      = Ideal.exp (val_main_v15 (F := Ideal) z (ix5 b h c q k) - val_main_v18 (F := Ideal) z (ix4 b h c q)) := by
    pointwise [val_main_v22, val_main_v21, val_main_v20, val_main_v19]
  rw [r, score_at, max_at, expo]

/-- The softmax. -/
theorem soft_at (b : Fin 4) (h : Fin 6) (c : Fin 2) (q k : Fin 4096) :
    val_main_v26 (F := Ideal) z (ix5 b h c q k) = soft (S z b h c q) k := by
  have e : (fun k => val_main_v22 (F := Ideal) z (ix5 b h c q k)) = expo (S z b h c q) := funext fun k => expo_at z b h c q k
  have r : val_main_v26 (F := Ideal) z (ix5 b h c q k)
      = Ideal.div (val_main_v22 (F := Ideal) z (ix5 b h c q k)) (∑ l, val_main_v22 (F := Ideal) z (ix5 b h c q l)) := by
    pointwise [val_main_v26, val_main_v25, val_main_v24, val_main_v23, val_main_cst_4]
  rw [r, soft]
  simp only [expo_at]

/-- The weight of the second softmax. -/
abbrev lam : EReal := lambda (fun i => a₁ (ix1 i)) (fun i => a₂ (ix1 i)) (fun i => a₃ (ix1 i)) (fun i => a₄ (ix1 i))

theorem lam_at (i : S_.Idx) :
    val_main_v8 (F := Ideal) a₁ a₂ a₃ a₄ i = lam a₁ a₂ a₃ a₄ := by
  pointwise [val_main_v8, val_main_v7, val_main_v6, val_main_v5, val_main_v4, val_main_v3, val_main_v2, val_main_v1,
    val_main_cst, val_main_cst_0, val_main_cst_1, lam, lambda]

theorem v28_at (b : Fin 4) (h : Fin 6) (q k : Fin 4096) :
    val_main_v28 (F := Ideal) z (ix4 b h q k) = val_main_v26 (F := Ideal) z (ix5 b h 0 q k) := by
  rw [val_main_v28]
  refine (drop_unit _ _ b h q k).trans ?_
  rw [val_main_v27]
  generalize val_main_v26 (F := Ideal) z = y
  pointwise

theorem v30_at (b : Fin 4) (h : Fin 6) (q k : Fin 4096) :
    val_main_v30 (F := Ideal) z (ix4 b h q k) = val_main_v26 (F := Ideal) z (ix5 b h 1 q k) := by
  rw [val_main_v30]
  refine (drop_unit _ _ b h q k).trans ?_
  rw [val_main_v29]
  generalize val_main_v26 (F := Ideal) z = y
  pointwise

/-- The difference of the two softmaxes. -/
theorem diff_at (b : Fin 4) (h : Fin 6) (q k : Fin 4096) :
    val_main_v33 (F := Ideal) z a₁ a₂ a₃ a₄ (ix4 b h q k)
      = soft (S z b h 0 q) k - lam a₁ a₂ a₃ a₄ * soft (S z b h 1 q) k := by
  rw [val_main_v33_apply, val_main_v32_apply, val_main_v31_apply, v28_at, v30_at, soft_at, soft_at, lam_at]
  generalize soft (S z b h 0 q) k = x
  generalize soft (S z b h 1 q) k = y
  generalize lam a₁ a₂ a₃ a₄ = l
  rfl

/-- One row of a head before its norm. -/
abbrev row (b : Fin 4) (h : Fin 6) (q : Fin 4096) : Fin 256 → EReal :=
  mix (lam a₁ a₂ a₃ a₄) (S z b h 0 q) (S z b h 1 q) (V z b h)

theorem mix_at (b : Fin 4) (h : Fin 6) (q : Fin 4096) (e : Fin 256) :
    val_main_v35 (F := Ideal) z a₁ a₂ a₃ a₄ (ix4 b q h e) = row z a₁ a₂ a₃ a₄ b h q e := by
  have r : val_main_v35 (F := Ideal) z a₁ a₂ a₃ a₄ (ix4 b q h e)
      = ∑ k : Fin 4096, val_main_v14 (F := Ideal) z (ix4 b k h e) * val_main_v33 (F := Ideal) z a₁ a₂ a₃ a₄ (ix4 b h q k) := by
    pointwise [val_main_v35, val_main_v34]
  rw [r, row, mix]
  refine Finset.sum_congr rfl fun k _ => ?_
  rw [value_at, diff_at, mul_comm]

/-- The reference's result at head `h`'s entry `e` of row `q`. -/
theorem result_at (b : Fin 4) (h : Fin 6) (q : Fin 4096) (e : Fin 256) :
    val_main_v52 (F := Ideal) z a₁ a₂ a₃ a₄ g (ix3 b q ⟨h.val * 256 + e.val, by omega⟩)
      = normed (row z a₁ a₂ a₃ a₄ b h q) (fun e => g (ix1 e)) e := by
  have r₁ : val_main_v52 (F := Ideal) z a₁ a₂ a₃ a₄ g (ix3 b q ⟨h.val * 256 + e.val, by omega⟩)
      = val_main_v50 (F := Ideal) z a₁ a₂ a₃ a₄ g (ix4 b q h e) := by
    pointwise [val_main_v52, val_main_v51]
  have r₂ : val_main_v50 (F := Ideal) z a₁ a₂ a₃ a₄ g (ix4 b q h e)
      = val_main_v35 (F := Ideal) z a₁ a₂ a₃ a₄ (ix4 b q h e)
        * Ideal.rsqrt (Ideal.div (∑ j, val_main_v35 (F := Ideal) z a₁ a₂ a₃ a₄ (ix4 b q h j)
            * val_main_v35 (F := Ideal) z a₁ a₂ a₃ a₄ (ix4 b q h j)) (Ideal.ofBits .f32 0x43800000#32)
          + Ideal.ofBits .f32 0x3727C5AC#32)
        * g (ix1 e) * Ideal.ofBits .f32 0x3F4CCCCD#32 := by
    pointwise [val_main_v50, val_main_v49, val_main_v48, val_main_v47, val_main_v46, val_main_v45, val_main_v44, val_main_v43,
      val_main_v42, val_main_v41, val_main_v40, val_main_v39, val_main_v38, val_main_v37, val_main_v36,
      val_main_cst_5, val_main_cst_6, val_main_cst_7, val_main_cst_8]
  rw [r₁, r₂, normed]
  simp only [mix_at]

end Cert.AttnRef

end
-- ==== Proof.Attn.lean ====
/- The attention's result array is the reference's: each grid point stores the rows of one head that the reference has there. -/
module

public import proofs.«01_k».proof.Proof.Gen.KernelIdeal.Frame
public import proofs.«01_k».proof.Proof.AttnKernel
public import proofs.«01_k».proof.Proof.AttnRef
public import proofs.«01_k».proof.Proof.Gen.Pre_finite
public import proofs.«01_k».proof.Defs
public import Idealize.ShloMosaic.Lib.Pipeline.ValueKit
public import Idealize.ShloMosaic.Lib.Claim

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen Cert.AttnRow

variable (m : (ℓ : Loc nD τ sig) → Buf (Elt Ideal) ℓ)

/-- The projected rows: queries, keys and values. -/
abbrev Z (c : Dev nD) : FVec Ideal S4x4096x9216 .bf16 := m ((c : Thread nD τ).loc main_arg0)
abbrev A₁ (c : Dev nD) : FVec Ideal S128 .f32 := m ((c : Thread nD τ).loc main_arg1)
abbrev A₂ (c : Dev nD) : FVec Ideal S128 .f32 := m ((c : Thread nD τ).loc main_arg2)
abbrev A₃ (c : Dev nD) : FVec Ideal S128 .f32 := m ((c : Thread nD τ).loc main_arg3)
abbrev A₄ (c : Dev nD) : FVec Ideal S128 .f32 := m ((c : Thread nD τ).loc main_arg4)
abbrev G (c : Dev nD) : FVec Ideal S256 .f32 := m ((c : Thread nD τ).loc main_arg5)

/-- Which block of its array each window holds at a grid point: batch, head and block of queries. -/
theorem idx : ∀ t : Fin cfg0.N, win0_0.index t = ![0, 0] ∧ win0_1.index t = ![0, 0]
    ∧ win0_2.index t = ![t.val / 96, t.val % 16, t.val / 16 % 6] ∧ win0_3.index t = ![t.val / 96, 0, 6 + t.val / 16 % 6]
    ∧ win0_4.index t = ![t.val / 96, 0, 12 + t.val / 16 % 6] ∧ win0_5.index t = ![t.val / 96, t.val % 16, t.val / 16 % 6] :=
  (by decide +kernel : ∀ t : Fin grid0.N, _)

theorem lt (t : Fin cfg0.N) : t.val < 384 := t.isLt

/-- The batch of a grid point. -/
abbrev bat (t : Fin cfg0.N) : Fin 4 := ⟨t.val / 96, by have := lt t; omega⟩
/-- The head of a grid point. -/
abbrev head (t : Fin cfg0.N) : Fin 6 := ⟨t.val / 16 % 6, by omega⟩
/-- The row of the array that row `r` of a grid point's block is. -/
abbrev at' (t : Fin cfg0.N) (r : Fin 256) : Fin 4096 := ⟨t.val % 16 * 256 + r.val, by omega⟩

theorem query (c : Dev nD) (t : Fin cfg0.N) (r d : Fin 256) :
    (iblk m c 2 t : FVec Ideal S1x256x256 .bf16) (ix3 0 r d)
      = Z m c (ix3 (bat t) (at' t r) ⟨(head t).val * 256 + d.val, by omega⟩) := by
  blk_ext [iblk, V, idx t]
theorem key (c : Dev nD) (t : Fin cfg0.N) (j : Fin 4096) (d : Fin 256) :
    (iblk m c 3 t : FVec Ideal S1x4096x256 .bf16) (ix3 0 j d)
      = Z m c (ix3 (bat t) j ⟨1536 + ((head t).val * 256 + d.val), by omega⟩) := by
  blk_ext [iblk, V, idx t]
theorem value (c : Dev nD) (t : Fin cfg0.N) (j : Fin 4096) (d : Fin 256) :
    (iblk m c 4 t : FVec Ideal S1x4096x256 .bf16) (ix3 0 j d)
      = Z m c (ix3 (bat t) j ⟨3072 + ((head t).val * 256 + d.val), by omega⟩) := by
  blk_ext [iblk, V, idx t]
theorem gain (c : Dev nD) (t : Fin cfg0.N) (d : Fin 256) :
    (iblk m c 1 t : FVec Ideal S1x256 .f32) (ix2 0 d) = G m c (ix1 d) := by
  blk_point [iblk, idx t]
/-- Four vectors as the rows of a matrix. -/
abbrev stack (x₁ x₂ x₃ x₄ : FVec Ideal S128 .f32) : FVec Ideal S4x128 .f32 :=
  concatenate S4x128 0 [⟨S1x128, broadcastInDim S1x128 ![1] bcast_S128_S1x128_1 x₁⟩,
    ⟨S1x128, broadcastInDim S1x128 ![1] bcast_S128_S1x128_1 x₂⟩, ⟨S1x128, broadcastInDim S1x128 ![1] bcast_S128_S1x128_1 x₃⟩,
    ⟨S1x128, broadcastInDim S1x128 ![1] bcast_S128_S1x128_1 x₄⟩] concatenates_S1x128_S1x128_S1x128_S1x128_S4x128_d0

/-- A row of the matrix is its vector. -/
theorem stack_at (x₁ x₂ x₃ x₄ : FVec Ideal S128 .f32) (d : Fin 128) :
    stack x₁ x₂ x₃ x₄ (ix2 0 d) = x₁ (ix1 d) ∧ stack x₁ x₂ x₃ x₄ (ix2 1 d) = x₂ (ix1 d)
      ∧ stack x₁ x₂ x₃ x₄ (ix2 2 d) = x₃ (ix1 d) ∧ stack x₁ x₂ x₃ x₄ (ix2 3 d) = x₄ (ix1 d) := by
  refine ⟨?_, ?_, ?_, ?_⟩ <;> pointwise

/-- The kernel's matrix of mixing vectors. -/
theorem mixers (c : Dev nD) (t : Fin cfg0.N) :
    (iblk m c 0 t : FVec Ideal S4x128 .f32) = stack (A₁ m c) (A₂ m c) (A₃ m c) (A₄ m c) := by
  have e : V m c main_v4 = stack (A₁ m c) (A₂ m c) (A₃ m c) (A₄ m c) := by
    unfold V; after_results; try rfl
  refine Eq.trans ?_ e
  funext i
  blk_ext [iblk, idx t]

theorem lam₁ (c : Dev nD) (t : Fin cfg0.N) (d : Fin 128) :
    (iblk m c 0 t : FVec Ideal S4x128 .f32) (ix2 0 d) = A₁ m c (ix1 d) :=
  (congrFun (mixers m c t) (ix2 0 d)).trans (stack_at _ _ _ _ d).1
theorem lam₂ (c : Dev nD) (t : Fin cfg0.N) (d : Fin 128) :
    (iblk m c 0 t : FVec Ideal S4x128 .f32) (ix2 1 d) = A₂ m c (ix1 d) :=
  (congrFun (mixers m c t) (ix2 1 d)).trans (stack_at _ _ _ _ d).2.1
theorem lam₃ (c : Dev nD) (t : Fin cfg0.N) (d : Fin 128) :
    (iblk m c 0 t : FVec Ideal S4x128 .f32) (ix2 2 d) = A₃ m c (ix1 d) :=
  (congrFun (mixers m c t) (ix2 2 d)).trans (stack_at _ _ _ _ d).2.2.1
theorem lam₄ (c : Dev nD) (t : Fin cfg0.N) (d : Fin 128) :
    (iblk m c 0 t : FVec Ideal S4x128 .f32) (ix2 3 d) = A₄ m c (ix1 d) :=
  (congrFun (mixers m c t) (ix2 3 d)).trans (stack_at _ _ _ _ d).2.2.2

/-- The precondition says that the queries and the keys are finite. -/
theorem finite_of (h : Pre_KernelIdeal_finite m) (c : Dev nD) (b : Fin 4) (s : Fin 4096) (d : Fin 3072) :
    Finite (Z m c (ix3 b s ⟨d.val, by omega⟩)) := by
  have e := congrFun (h c) (ix3 b s d)
  have r : Ideal.cmp .olt (max (Z m c (ix3 b s ⟨d.val, by omega⟩)) (-(Z m c (ix3 b s ⟨d.val, by omega⟩))))
      (Ideal.ofBits .bf16 0x7F80#16) = 1#1 := by
    refine Eq.trans ?_ e
    pointwise [Cert.Pre_finite.fn]
    rfl
  have t : Ideal.ofBits .bf16 0x7F80#16 = ⊤ := by simp [Ideal.ofBits, Ideal.ieee]
  rw [t] at r
  generalize Z m c (ix3 b s ⟨d.val, by omega⟩) = x at r
  have l : max x (-x) < ⊤ := by
    by_contra n
    simp [Ideal.cmp, n] at r
  refine ⟨fun u => ?_, fun u => ?_⟩ <;> simp [u] at l

/-- The scores of a grid point's row under the first half of its head. -/
theorem scores₀ (c : Dev nD) (t : Fin cfg0.N) (r : Fin 256) :
    AttnKernel.S₀ (iblk m c 2 t) (iblk m c 3 t) r = AttnRef.S (Z m c) (bat t) (head t) 0 (at' t r) := by
  have q : (fun d : Fin 128 => (iblk m c 2 t : FVec Ideal S1x256x256 .bf16) (ix3 0 r ⟨d.val, by omega⟩))
      = AttnRef.Q (Z m c) (bat t) (head t) 0 (at' t r) := funext fun d => query m c t r ⟨d.val, by omega⟩
  have k : (fun (j : Fin 4096) (d : Fin 128) => (iblk m c 3 t : FVec Ideal S1x4096x256 .bf16) (ix3 0 j ⟨d.val, by omega⟩))
      = AttnRef.K (Z m c) (bat t) (head t) 0 := funext fun j => funext fun d => key m c t j ⟨d.val, by omega⟩
  exact congrArg₂ score q k

/-- The scores of a grid point's row under the second half of its head. -/
theorem scores₁ (c : Dev nD) (t : Fin cfg0.N) (r : Fin 256) :
    AttnKernel.S₁ (iblk m c 2 t) (iblk m c 3 t) r = AttnRef.S (Z m c) (bat t) (head t) 1 (at' t r) := by
  have q : (fun d : Fin 128 => (iblk m c 2 t : FVec Ideal S1x256x256 .bf16) (ix3 0 r ⟨128 + d.val, by omega⟩))
      = AttnRef.Q (Z m c) (bat t) (head t) 1 (at' t r) := funext fun d => by
    refine (query m c t r ⟨128 + d.val, by omega⟩).trans (congrArg (Z m c) ?_)
    blk_ext []
  have k : (fun (j : Fin 4096) (d : Fin 128) => (iblk m c 3 t : FVec Ideal S1x4096x256 .bf16) (ix3 0 j ⟨128 + d.val, by omega⟩))
      = AttnRef.K (Z m c) (bat t) (head t) 1 := funext fun j => funext fun d => by
    refine (key m c t j ⟨128 + d.val, by omega⟩).trans (congrArg (Z m c) ?_)
    blk_ext []
  exact congrArg₂ score q k

/-- Scores are finite under the precondition. -/
theorem finite_S (h : Pre_KernelIdeal_finite m) (c : Dev nD) (b : Fin 4) (n : Fin 6) (w : Fin 2) (q k : Fin 4096) :
    Finite (AttnRef.S (Z m c) b n w q k) :=
  finite_score _ _ (fun d => finite_of m h c b q ⟨n.val * 256 + w.val * 128 + d.val, by omega⟩)
    (fun k d => finite_of m h c b k ⟨1536 + (n.val * 256 + w.val * 128 + d.val), by omega⟩) k

/-- The reference's result over the kernel's arguments. -/
abbrev REF (c : Dev nD) : FVec Ideal S4x4096x1536 .bf16 :=
  Cert.ReferenceIdeal.Read.val_main_v52 (F := Ideal) (Z m c) (A₁ m c) (A₂ m c) (A₃ m c) (A₄ m c) (G m c)

/-- What a grid point stores is the reference's result where its block lies. -/
theorem point (h : Pre_KernelIdeal_finite m) (c : Dev nD) (t : Fin cfg0.N) (r e : Fin 256) :
    k0_pay1 (F := Ideal) (k0_pay2 (iblk m c 0 t)) (k0_pay5 (iblk m c 4 t)) (k0_pay6 (iblk m c 2 t) (iblk m c 3 t))
        (k0_pay7 (iblk m c 2 t)) (k0_pay8 (iblk m c 3 t)) (iblk m c 1 t) (ix3 0 r e)
      = REF m c (ix3 (bat t) (at' t r) ⟨(head t).val * 256 + e.val, by omega⟩) := by
  refine (AttnKernel.stored_at _ _ _ _ _ r e (fun j => ?_) (fun j => ?_)).trans ?_
  · rw [scores₀ m c t r]; exact finite_S m h c _ _ _ _ _
  · rw [scores₁ m c t r]; exact finite_S m h c _ _ _ _ _
  refine Eq.trans ?_ (AttnRef.result_at (Z m c) (A₁ m c) (A₂ m c) (A₃ m c) (A₄ m c) (G m c) (bat t) (head t) (at' t r) e).symm
  have g : (fun e => (iblk m c 1 t : FVec Ideal S1x256 .f32) (ix2 0 e)) = fun e => G m c (ix1 e) := funext fun e => gain m c t e
  have l₁ : (fun i => (iblk m c 0 t : FVec Ideal S4x128 .f32) (ix2 0 i)) = fun i => A₁ m c (ix1 i) := funext fun i => lam₁ m c t i
  have l₂ : (fun i => (iblk m c 0 t : FVec Ideal S4x128 .f32) (ix2 1 i)) = fun i => A₂ m c (ix1 i) := funext fun i => lam₂ m c t i
  have l₃ : (fun i => (iblk m c 0 t : FVec Ideal S4x128 .f32) (ix2 2 i)) = fun i => A₃ m c (ix1 i) := funext fun i => lam₃ m c t i
  have l₄ : (fun i => (iblk m c 0 t : FVec Ideal S4x128 .f32) (ix2 3 i)) = fun i => A₄ m c (ix1 i) := funext fun i => lam₄ m c t i
  have v : (fun (j : Fin 4096) (e : Fin 256) => (iblk m c 4 t : FVec Ideal S1x4096x256 .bf16) (ix3 0 j e))
      = AttnRef.V (Z m c) (bat t) (head t) := funext fun j => funext fun e => value m c t j e
  rw [scores₀ m c t r, scores₁ m c t r, g, l₁, l₂, l₃, l₄, v]

/-- THE RESULT ARRAY after the run is the reference's. -/
theorem final (h : Pre_KernelIdeal_finite m) (c : Dev nD) : (dats m 0 c).arrAt 5 (cfgs 0).N = REF m c := by
  refine (dats m 0 c).arrAt_eq_of_covers 5 _ (by decide +kernel) fun t _ y => ?_
  blk_simp
  rw [after0_5]; frame_out
  have e₀ : y = ix3 0 (y 1) (y 2) := by blk_ext []
  rw [e₀]
  refine (point m h c t (y 1) (y 2)).trans (congrArg (REF m c) ?_)
  blk_ext [idx t]

end Cert.Attn

end
-- ==== Proof.Rows.lean ====
/- One row of the layer over the extended reals: the norm over the model's width, the logistic function and one hidden unit of the feed-forward part. -/
module

public import proofs.«01_k».proof.Proof.AttnRow

@[expose] public section

noncomputable section

namespace Cert.Rows

open Idealize.ShloMosaic Cert.AttnRow

/-- The root mean square norm of a row of the model's width, times the gain. -/
def normed (x g : Fin 2048 → EReal) (e : Fin 2048) : EReal :=
  x e * Ideal.rsqrt (Ideal.div (∑ j, x j * x j) (Ideal.ofBits .f32 0x45000000#32) + Ideal.ofBits .f32 0x3727C5AC#32) * g e

/-- The logistic function spelt as a quotient. -/
theorem logistic_eq (x : EReal) :
    Ideal.div (Ideal.ofBits .f32 0x3F800000#32) (Ideal.ofBits .f32 0x3F800000#32 + Ideal.exp (-x)) = Ideal.logistic x := by
  rw [one]; rfl

/-- One hidden unit: the gate's product through `x * logistic x`, times the other product. -/
def unit (h wg wu : Fin 2048 → EReal) : EReal :=
  (∑ d, h d * wg d) * Ideal.logistic (∑ d, h d * wg d) * (∑ d, h d * wu d)

end Cert.Rows

end
-- ==== Proof.FfnKernel.lean ====
/- What one grid point of the feed-forward kernel computes from its blocks. -/
module

public import proofs.«01_k».proof.Proof.Gen.FfnIdeal.Skeleton
public import proofs.«01_k».proof.Proof.Rows

@[expose] public section

set_option maxRecDepth 16384

noncomputable section

namespace Cert.FfnKernel

open Idealize.ShloMosaic Cert.FfnIdeal Cert.FfnIdeal.Gen Cert.Rows

variable (h : FVec Ideal S512x2048 .bf16) (wg wu : FVec Ideal S2048x512 .bf16) (wd : FVec Ideal S512x2048 .bf16)

/-- A point's part of the second product: a sum over its 512 hidden units. -/
theorem part_at (r : Fin 512) (e : Fin 2048) :
    k0_pay1 (F := Ideal) h wg wu wd (ix2 r e)
      = ∑ f : Fin 512, unit (fun d => h (ix2 r d)) (fun d => wg (ix2 d f)) (fun d => wu (ix2 d f)) * wd (ix2 f e) := by
  pointwise [k0_pay1, unit]

/-- The first point of a run starts from the residual. -/
theorem start_at (x : FVec Ideal S512x2048 .f32) (i : S512x2048.Idx) :
    k0_pay2 (F := Ideal) h wg wu wd x i = x i + k0_pay1 (F := Ideal) h wg wu wd i := by
  unfold k0_pay2
  generalize k0_pay1 (F := Ideal) h wg wu wd = y
  idx_vars i
  pointwise

/-- The other points add their part to what the point before left. -/
theorem step_at (x : FVec Ideal S512x2048 .f32) (i : S512x2048.Idx) :
    k0_pay3 (F := Ideal) h wg wu wd x i = x i + k0_pay1 (F := Ideal) h wg wu wd i := start_at h wg wu wd x i

/-- The last point of a run stores the norm of the sum. -/
theorem norm_at (x : FVec Ideal S512x2048 .f32) (g : FVec Ideal S1x2048 .f32) (r : Fin 512) (e : Fin 2048) :
    k0_pay4 (F := Ideal) x g (ix2 r e) = normed (fun j => x (ix2 r j)) (fun j => g (ix2 0 j)) e := by
  pointwise [k0_pay4, normed]

end Cert.FfnKernel

end
-- ==== Proof.FfnRef.lean ====
/- The feed-forward reference's result at an index. -/
module

public import proofs.«01_k».proof.Proof.Gen.FfnReferenceIdeal.Read
public import proofs.«01_k».proof.Proof.Rows

@[expose] public section

set_option maxRecDepth 16384

noncomputable section

namespace Cert.FfnRef

open Idealize.ShloMosaic Cert.FfnReferenceIdeal Cert.FfnReferenceIdeal.Read Cert.Rows

variable (h : FVec Ideal S16384x2048 .bf16) (x : FVec Ideal S16384x2048 .f32) (wg wu : FVec Ideal S2048x5632 .f32)
  (wd : FVec Ideal S5632x2048 .f32) (g : FVec Ideal S2048 .f32)

/-- The first product for the gate. -/
theorem gate_at (n : Fin 16384) (f : Fin 5632) :
    val_main_v1 (F := Ideal) h wg (ix2 n f) = ∑ d : Fin 2048, h (ix2 n d) * wg (ix2 d f) := by
  pointwise [val_main_v1, val_main_v0]

/-- The other first product. -/
theorem up_at (n : Fin 16384) (f : Fin 5632) :
    val_main_v3 (F := Ideal) h wu (ix2 n f) = ∑ d : Fin 2048, h (ix2 n d) * wu (ix2 d f) := by
  pointwise [val_main_v3, val_main_v0]

/-- A hidden unit. -/
theorem unit_at (n : Fin 16384) (f : Fin 5632) :
    val_main_v4 (F := Ideal) h wg wu (ix2 n f)
      = unit (fun d => h (ix2 n d)) (fun d => wg (ix2 d f)) (fun d => wu (ix2 d f)) := by
  rw [val_main_v4_apply, val_main_v2_apply, val_main_call0_v5_apply, val_main_call0_v4_apply, val_main_call0_v3_apply,
    val_main_call0_v2_apply, val_main_call0_v1_apply, val_main_call0_v0_apply, val_main_call0_cst_apply,
    val_main_call0_cst_0_apply, gate_at, up_at, unit, ← logistic_eq]
  rfl

/-- The residual plus the second product. -/
abbrev total (n : Fin 16384) (e : Fin 2048) : EReal :=
  x (ix2 n e) + ∑ f : Fin 5632, unit (fun d => h (ix2 n d)) (fun d => wg (ix2 d f)) (fun d => wu (ix2 d f)) * wd (ix2 f e)

theorem total_at (n : Fin 16384) (e : Fin 2048) :
    val_main_v6 (F := Ideal) h x wg wu wd (ix2 n e) = total h x wg wu wd n e := by
  have r : val_main_v5 (F := Ideal) h wg wu wd (ix2 n e)
      = ∑ f : Fin 5632, val_main_v4 (F := Ideal) h wg wu (ix2 n f) * wd (ix2 f e) := by
    unfold val_main_v5
    generalize val_main_v4 (F := Ideal) h wg wu = y
    pointwise
  rw [val_main_v6_apply, r, total]
  simp only [unit_at]
  rfl

/-- The reference's result: the norm of that sum. -/
theorem result_at (n : Fin 16384) (e : Fin 2048) :
    val_main_v19 (F := Ideal) h x wg wu wd g (ix2 n e) = normed (total h x wg wu wd n) (fun j => g (ix1 j)) e := by
  have r : val_main_v19 (F := Ideal) h x wg wu wd g (ix2 n e)
      = val_main_v6 (F := Ideal) h x wg wu wd (ix2 n e)
        * Ideal.rsqrt (Ideal.div (∑ j, val_main_v6 (F := Ideal) h x wg wu wd (ix2 n j)
            * val_main_v6 (F := Ideal) h x wg wu wd (ix2 n j)) (Ideal.ofBits .f32 0x45000000#32)
          + Ideal.ofBits .f32 0x3727C5AC#32)
        * g (ix1 e) := by
    pointwise [val_main_v19, val_main_v18, val_main_v17, val_main_v16, val_main_v15, val_main_v14, val_main_v13, val_main_v12,
      val_main_v11, val_main_v10, val_main_v9, val_main_v8, val_main_v7, val_main_cst, val_main_cst_0, val_main_cst_1]
  rw [r, normed]
  simp only [total_at]

end Cert.FfnRef

end
-- ==== Proof.FfnValue.lean ====
/- The feed-forward kernel's result array is the reference's: the last of a run's eleven points stores the norm of the residual plus the whole second product. -/
module

public import proofs.«01_k».proof.Proof.Gen.FfnIdeal.Frame
public import proofs.«01_k».proof.Proof.FfnKernel
public import proofs.«01_k».proof.Proof.FfnRef
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnValue

open Idealize.ShloMosaic Idealize.ShloMosaic.TcCoe Idealize.SL.Sem
open Idealize.ShloMosaic.Pipeline (Dat)
open Cert.FfnIdeal Cert.FfnIdeal.Gen Cert.Rows

variable (m : (ℓ : Loc nD τ sig) → Buf (Elt Ideal) ℓ)

/-- The normed rows, the residual, the three weights and the last norm's gain. -/
abbrev H (c : Dev nD) : FVec Ideal S16384x2048 .bf16 := m ((c : Thread nD τ).loc main_arg0)
abbrev X (c : Dev nD) : FVec Ideal S16384x2048 .f32 := m ((c : Thread nD τ).loc main_arg1)
abbrev WG (c : Dev nD) : FVec Ideal S2048x5632 .f32 := m ((c : Thread nD τ).loc main_arg2)
abbrev WU (c : Dev nD) : FVec Ideal S2048x5632 .f32 := m ((c : Thread nD τ).loc main_arg3)
abbrev WD (c : Dev nD) : FVec Ideal S5632x2048 .f32 := m ((c : Thread nD τ).loc main_arg4)
abbrev G (c : Dev nD) : FVec Ideal S2048 .f32 := m ((c : Thread nD τ).loc main_arg5)

/-- Which block of its array each window holds at a grid point: block of rows and block of hidden units. -/
theorem idx : ∀ t : Fin cfg0.N, win0_0.index t = ![t.val / 11, 0] ∧ win0_1.index t = ![t.val / 11, 0]
    ∧ win0_2.index t = ![0, t.val % 11] ∧ win0_3.index t = ![0, t.val % 11] ∧ win0_4.index t = ![t.val % 11, 0]
    ∧ win0_5.index t = ![0, 0] ∧ win0_6.index t = ![t.val / 11, 0] :=
  (by decide +kernel : ∀ t : Fin grid0.N, _)

theorem lt (t : Fin cfg0.N) : t.val < 352 := t.isLt

/-- The row of the array that row `r` of a grid point's block is. -/
abbrev row (t : Fin cfg0.N) (r : Fin 512) : Fin 16384 := ⟨t.val / 11 * 512 + r.val, by have := lt t; omega⟩
/-- The hidden unit that unit `f` of a grid point's block is. -/
abbrev hid (t : Fin cfg0.N) (f : Fin 512) : Fin 5632 := ⟨t.val % 11 * 512 + f.val, by omega⟩

theorem normed_rows (c : Dev nD) (t : Fin cfg0.N) (r : Fin 512) (d : Fin 2048) :
    (iblk m c 0 t : FVec Ideal S512x2048 .bf16) (ix2 r d) = H m c (ix2 (row t r) d) := by
  blk_ext [iblk, V, idx t]
theorem residual (c : Dev nD) (t : Fin cfg0.N) (r : Fin 512) (d : Fin 2048) :
    (iblk m c 1 t : FVec Ideal S512x2048 .f32) (ix2 r d) = X m c (ix2 (row t r) d) := by
  blk_ext [iblk, V, idx t]
theorem gate (c : Dev nD) (t : Fin cfg0.N) (d : Fin 2048) (f : Fin 512) :
    (iblk m c 2 t : FVec Ideal S2048x512 .bf16) (ix2 d f) = WG m c (ix2 d (hid t f)) := by
  blk_point [iblk, idx t]
theorem up (c : Dev nD) (t : Fin cfg0.N) (d : Fin 2048) (f : Fin 512) :
    (iblk m c 3 t : FVec Ideal S2048x512 .bf16) (ix2 d f) = WU m c (ix2 d (hid t f)) := by
  blk_point [iblk, idx t]
theorem down (c : Dev nD) (t : Fin cfg0.N) (f : Fin 512) (e : Fin 2048) :
    (iblk m c 4 t : FVec Ideal S512x2048 .bf16) (ix2 f e) = WD m c (ix2 (hid t f) e) := by
  blk_point [iblk, idx t]
theorem gain (c : Dev nD) (t : Fin cfg0.N) (d : Fin 2048) :
    (iblk m c 5 t : FVec Ideal S1x2048 .f32) (ix2 0 d) = G m c (ix1 d) := by
  blk_point [iblk, idx t]

/-- What hidden unit `f` adds to entry `e` of row `n`. -/
abbrev share (c : Dev nD) (n : Fin 16384) (e : Fin 2048) (f : Fin 5632) : EReal :=
  unit (fun d => H m c (ix2 n d)) (fun d => WG m c (ix2 d f)) (fun d => WU m c (ix2 d f)) * WD m c (ix2 f e)

/-- A grid point's part of the second product. -/
abbrev part (c : Dev nD) (t : Fin cfg0.N) : FVec Ideal S512x2048 .f32 :=
  k0_pay1 (F := Ideal) (iblk m c 0 t) (iblk m c 2 t) (iblk m c 3 t) (iblk m c 4 t)

/-- It is what the point's 512 hidden units add. -/
theorem part_eq (c : Dev nD) (t : Fin cfg0.N) (r : Fin 512) (e : Fin 2048) :
    part m c t (ix2 r e) = ∑ f : Fin 512, share m c (row t r) e (hid t f) := by
  refine (FfnKernel.part_at _ _ _ _ r e).trans (Finset.sum_congr rfl fun f _ => ?_)
  simp only [normed_rows m c t, gate m c t, up m c t, down m c t]

/-- A grid point's block of the residual. -/
abbrev held (c : Dev nD) (t : Fin cfg0.N) : FVec Ideal S512x2048 .f32 := iblk m c 1 t

/-- What a grid point adds to the sum: its part, and at a run's first point the residual. -/
abbrev term (c : Dev nD) (t : Fin cfg0.N) (i : S512x2048.Idx) : EReal :=
  (if t.val % 11 = 0 then held m c t i else (0 : EReal)) + part m c t i

/-- The sum at a run's first point. -/
theorem acc_start (c : Dev nD) (t : Fin cfg0.N) (h : t.val % 11 = 0) (i : S512x2048.Idx) :
    (outsAt0 m c t.val t.isLt).2 i = (0 : EReal) + term m c t i := by
  rw [outsAt0_A m c t h (by omega) (by omega)]; frame_out
  rw [FfnKernel.start_at, term, if_pos h, zero_add]

/-- The sum at a later point of a run. -/
theorem acc_step (c : Dev nD) (t : Fin cfg0.N) (h : ¬t.val % 11 = 0) (i : S512x2048.Idx) :
    (outsAt0 m c t.val t.isLt).2 i
      = (outsAt0 m c (t.val - 1) (Nat.lt_of_le_of_lt (Nat.sub_le _ _) t.isLt)).2 i + term m c t i := by
  by_cases l : t.val % 11 = 10
  · rw [outsAt0_C m c t h (by omega) l]; frame_out
    rw [FfnKernel.step_at, term, if_neg h, zero_add, read_unread_whole]
  · rw [outsAt0_B m c t h (by omega) l]; frame_out
    rw [FfnKernel.step_at, term, if_neg h, zero_add, read_unread_whole]

/-- The sum at a run's last point: the residual plus the whole second product. -/
theorem acc_end (c : Dev nD) (t : Fin cfg0.N) (h : t.val % 11 = 10) (r : Fin 512) (e : Fin 2048) :
    (outsAt0 m c t.val t.isLt).2 (ix2 r e)
      = FfnRef.total (H m c) (X m c) (WG m c) (WU m c) (WD m c) (row t r) e := by
  rw [Pipeline.eq_sum_fin_of_reset_step_apply_of_flush (fun n h => (outsAt0 m c n h).2) 11 (fun _ => (0 : EReal)) (term m c)
    (acc_start m c) (acc_step m c) t h (ix2 r e), zero_add, Finset.sum_add_distrib, FfnRef.total]
  have hrow : ∀ s : Fin 11, row ⟨11 * (t.val / 11) + s.val, Pipeline.run_point_lt_of_flush t h s⟩ r = row t r := fun s =>
    Fin.ext (by simp only [row]; omega)
  congr 1
  · rw [Finset.sum_eq_single (0 : Fin 11)]
    · rw [if_pos (by simp)]
      exact (residual m c _ r e).trans (by rw [hrow])
    · intro s _ n
      rw [if_neg]
      have : s.val ≠ 0 := fun u => n (Fin.ext u)
      show ¬(11 * (t.val / 11) + s.val) % 11 = 0
      omega
    · intro n; exact absurd (Finset.mem_univ _) n
  · refine (Finset.sum_congr rfl fun s _ => (part_eq m c _ r e)).trans ?_
    refine Fin.sum_mul_add_congr (f := share m c (row t r) e) fun s k hl => ?_
    rw [hrow s]
    refine congrArg (share m c (row t r) e) (Fin.ext ?_)
    show (11 * (t.val / 11) + s.val) % 11 * 512 + k.val = s.val * 512 + k.val
    omega

/-- The reference's result over the kernel's arguments. -/
abbrev REF (c : Dev nD) : FVec Ideal S16384x2048 .f32 :=
  Cert.FfnReferenceIdeal.Read.val_main_v19 (F := Ideal) (H m c) (X m c) (WG m c) (WU m c) (WD m c) (G m c)

/-- What a run's last point stores is the reference's result where its block lies. -/
theorem point (c : Dev nD) (t : Fin cfg0.N) (h : t.val % 11 = 10) (r : Fin 512) (e : Fin 2048) :
    (outsAt0 m c t.val t.isLt).1 (ix2 r e) = REF m c (ix2 (row t r) e) := by
  have s : (outsAt0 m c t.val t.isLt).1 (ix2 r e)
      = k0_pay4 (F := Ideal) (outsAt0 m c t.val t.isLt).2 (iblk m c 5 t) (ix2 r e) := by
    rw [outsAt0_C m c t (by omega) (by omega) h]; frame_out
  rw [s, FfnKernel.norm_at, REF, FfnRef.result_at]
  have a : (fun j => (outsAt0 m c t.val t.isLt).2 (ix2 r j))
      = FfnRef.total (H m c) (X m c) (WG m c) (WU m c) (WD m c) (row t r) := funext fun e => acc_end m c t h r e
  have g : (fun e => (iblk m c 5 t : FVec Ideal S1x2048 .f32) (ix2 0 e)) = fun e => G m c (ix1 e) := funext fun e => gain m c t e
  rw [a, g]

/-- THE RESULT ARRAY after the run is the reference's. -/
theorem final (c : Dev nD) : (dats m 0 c).arrAt 6 (cfgs 0).N = REF m c := by
  refine (dats m 0 c).arrAt_eq_of_covers 6 _ (by decide +kernel) fun t hf y => ?_
  have h : t.val % 11 = 10 := (flush0_6 t).mp hf
  blk_simp
  rw [after0_6]
  have e₀ : y = ix2 (y 0) (y 1) := by blk_ext []
  rw [e₀]
  refine (point m c t h (y 0) (y 1)).trans (congrArg (REF m c) ?_)
  blk_ext [idx t]

end Cert.FfnValue

end
-- ==== Proof.InProjRow.lean ====
/- The projection of one row over the extended reals: a column's product with the normed row, and the rotation of a head's lanes. -/
module

public import proofs.«01_k».proof.Proof.Rows

@[expose] public section

noncomputable section

namespace Cert.InProjRow

open Idealize.ShloMosaic Cert.Rows

/-- The factor on the queries, `1 / sqrt(128)` in float32. -/
abbrev scale : EReal := Ideal.ofBits .f32 0x3DB504F3#32

theorem zero : Ideal.ofBits .f32 0x00000000#32 = 0 := by simp [Ideal.ofBits, Ideal.ieee]

/-- The factor is a real number that is not negative. -/
theorem scale_real : ∃ r : ℝ, 0 ≤ r ∧ scale = (r : EReal) := by
  have e : scale = (((11863283 : ℝ) * 2 ^ (-27 : ℤ) : ℝ) : EReal) := by
    simp [scale, Ideal.ofBits, Ideal.ieee]
  exact ⟨_, by positivity, e⟩

theorem scale_nonneg : 0 ≤ scale := by
  obtain ⟨r, h, e⟩ := scale_real
  rw [e]; exact EReal.coe_nonneg.mpr h

theorem scale_ne_top : scale ≠ ⊤ := by
  obtain ⟨r, _, e⟩ := scale_real
  rw [e]; exact EReal.coe_ne_top r

/-- The normed row times one column of the weights. -/
def proj (x g w : Fin 2048 → EReal) : EReal := ∑ d, normed x g d * w d

/-- The rotation of the first 32 lanes of a head of 128, by the cosines and sines of 16 angles. -/
def rope (a : Fin 128 → EReal) (cs sn : Fin 16 → EReal) (d : Fin 128) : EReal :=
  if h : d.val < 16 then a d * cs ⟨d.val, h⟩ - a ⟨d.val + 16, by omega⟩ * sn ⟨d.val, h⟩
  else if h' : d.val < 32 then a d * cs ⟨d.val - 16, by omega⟩ + a ⟨d.val - 16, by omega⟩ * sn ⟨d.val - 16, by omega⟩
  else a d

/-- A sum times a finite factor that is not negative. -/
theorem add_mul_of (x y s : EReal) (h : 0 ≤ s) (t : s ≠ ⊤) : (x + y) * s = x * s + y * s :=
  EReal.right_distrib_of_nonneg_of_ne_top h t x y

/-- Scaling after the rotation is scaling before it. -/
theorem rope_mul (a : Fin 128 → EReal) (cs sn : Fin 16 → EReal) (d : Fin 128) (s : EReal) (h : 0 ≤ s) (t : s ≠ ⊤) :
    rope (fun d => a d * s) cs sn d = rope a cs sn d * s := by
  unfold rope
  split
  · rw [sub_eq_add_neg, sub_eq_add_neg, add_mul_of _ _ s h t, EReal.neg_mul, mul_right_comm, mul_right_comm (a _) s]
  · split
    · rw [add_mul_of _ _ s h t, mul_right_comm, mul_right_comm (a _) s]
    · rfl

end Cert.InProjRow

end
-- ==== Proof.InProjKernel.lean ====
/- What one grid point of the projection kernel computes from its blocks. -/
module

public import proofs.«01_k».proof.Proof.Gen.InProjIdeal.Skeleton
public import proofs.«01_k».proof.Proof.InProjRow

@[expose] public section

set_option maxRecDepth 16384

noncomputable section

namespace Cert.InProjKernel

open Idealize.ShloMosaic Cert.InProjIdeal Cert.InProjIdeal.Gen Cert.Rows Cert.InProjRow

/-- The normed rows. -/
theorem norm_at (x : FVec Ideal S1024x2048 .f32) (g : FVec Ideal S1x2048 .f32) (r : Fin 1024) (e : Fin 2048) :
    k0_pay1 (F := Ideal) x g (ix2 r e) = normed (fun j => x (ix2 r j)) (fun j => g (ix2 0 j)) e := by
  pointwise [k0_pay1, normed]

/-- The product of the rows with a block of columns. -/
theorem dot_at (h : FVec Ideal S1024x2048 .bf16) (w : FVec Ideal S2048x512 .bf16) (r : Fin 1024) (l : Fin 512) :
    k0_pay2 (F := Ideal) h w (ix2 r l) = ∑ d : Fin 2048, h (ix2 r d) * w (ix2 d l) := by
  pointwise [k0_pay2]

/-- A block of columns kept as it is. -/
theorem plain_at (h : FVec Ideal S1024x2048 .bf16) (w : FVec Ideal S2048x512 .bf16) (r : Fin 1024) (l : Fin 512) :
    k0_pay4 (F := Ideal) h w (ix2 r l) = ∑ d : Fin 2048, h (ix2 r d) * w (ix2 d l) := dot_at h w r l

/-- A block of gates. -/
theorem gate_at (h : FVec Ideal S1024x2048 .bf16) (w : FVec Ideal S2048x512 .bf16) (r : Fin 1024) (l : Fin 512) :
    k0_pay5 (F := Ideal) h w (ix2 r l) = Ideal.logistic (∑ d : Fin 2048, h (ix2 r d) * w (ix2 d l)) :=
  congrArg Ideal.logistic (dot_at h w r l)

/-- A table of one head's lanes, laid out four times. -/
abbrev rep (c : FVec Ideal S1024x128 .f32) : FVec Ideal S1024x512 .f32 :=
  concatenate S1024x512 1 [⟨S1024x128, c⟩, ⟨S1024x128, c⟩, ⟨S1024x128, c⟩, ⟨S1024x128, c⟩]
    concatenates_S1024x128_S1024x128_S1024x128_S1024x128_S1024x512_d1

theorem rep_at (c : FVec Ideal S1024x128 .f32) (r : Fin 1024) (l : Fin 512) :
    rep c (ix2 r l) = c (ix2 r ⟨l.val % 128, by omega⟩) := by
  pointwise [rep]
  have q : ∀ x y : Fin 128, x.val = y.val → c (ix2 r x) = c (ix2 r y) := fun x y h => by rw [Fin.ext h]
  split_ifs <;> exact q _ _ (by simp only []; omega)

/-- The rotation of a block by three tables. -/
abbrev turned (a c sa sb : FVec Ideal S1024x512 .f32) : FVec Ideal S1024x512 .f32 :=
  addf (addf (mulf a c) (mulf (dynamicRotate 1 496#32 none a rotates_S1024x512_d1) sa))
    (mulf (dynamicRotate 1 16#32 none a rotates_S1024x512_d1) sb)

theorem turned_at (a c sa sb : FVec Ideal S1024x512 .f32) (r : Fin 1024) (l : Fin 512) :
    turned a c sa sb (ix2 r l) = a (ix2 r l) * c (ix2 r l) + a (ix2 r ⟨(l.val + 16) % 512, by omega⟩) * sa (ix2 r l)
      + a (ix2 r ⟨(l.val + 496) % 512, by omega⟩) * sb (ix2 r l) := by
  pointwise [turned]
  have q : ∀ x y : Fin 512, x.val = y.val → a (ix2 r x) = a (ix2 r y) := fun x y h => by rw [Fin.ext h]
  rw [q ⟨(l.val + 512 - 496) % 512, by omega⟩ ⟨(l.val + 16) % 512, by omega⟩ (by simp only []; omega),
    q ⟨(l.val + 512 - 16) % 512, by omega⟩ ⟨(l.val + 496) % 512, by omega⟩ (by simp only []; omega)]

/-- The factor of a block of columns: the queries' scale, or one. -/
abbrev factor (i : grid0.Coords) : EReal :=
  Scalar.select (Scalar.cmpi .slt (BitVec.ofNat 32 (i 1).val) 3#32) (Ideal.ofBits .f32 0x3DB504F3#32 : Ideal .f32)
    (Ideal.ofBits .f32 0x3F800000#32 : Ideal .f32)

theorem factor_eq (i : grid0.Coords) : factor i = if (i 1).val < 3 then scale else 1 := by
  have h : (i 1).val < 18 := (i 1).isLt
  unfold factor
  generalize (i 1).val = n at h
  rw [AttnRow.one]
  interval_cases n <;> rfl

/-- A block of queries or keys at an index, its tables being those of 16 angles. -/
theorem rope_at (i : grid0.Coords) (h : FVec Ideal S1024x2048 .bf16) (w : FVec Ideal S2048x512 .bf16)
    (c sa sb : FVec Ideal S1024x128 .f32) (r : Fin 1024) (cs sn : Fin 16 → EReal)
    (hc : ∀ d : Fin 128, c (ix2 r d) = if u : d.val < 16 then cs ⟨d.val, u⟩
      else if v : d.val < 32 then cs ⟨d.val - 16, by omega⟩ else 1)
    (ha : ∀ d : Fin 128, sa (ix2 r d) = if u : d.val < 16 then -sn ⟨d.val, u⟩ else 0)
    (hb : ∀ d : Fin 128, sb (ix2 r d) = if u : d.val < 16 then 0
      else if v : d.val < 32 then sn ⟨d.val - 16, by omega⟩ else 0)
    (l : Fin 512) :
    k0_pay3 (F := Ideal) i h w c sa sb (ix2 r l)
      = rope (fun d => k0_pay2 (F := Ideal) h w (ix2 r ⟨l.val / 128 * 128 + d.val, by omega⟩) * factor i) cs sn
          ⟨l.val % 128, by omega⟩ := by
  have e : k0_pay3 (F := Ideal) i h w c sa sb
      = turned (mulf (k0_pay2 (F := Ideal) h w) (broadcast S1024x512 (factor i : Ideal .f32)))
          (rep (shapeCast S1024x128 c shapeCasts_S1024x128_S1024x128)) (rep (shapeCast S1024x128 sa shapeCasts_S1024x128_S1024x128))
          (rep (shapeCast S1024x128 sb shapeCasts_S1024x128_S1024x128)) := rfl
  have k : ∀ (t : FVec Ideal S1024x128 .f32) (d : Fin 128),
      shapeCast S1024x128 t shapeCasts_S1024x128_S1024x128 (ix2 r d) = t (ix2 r d) := fun t d => by pointwise
  rw [e]
  generalize k0_pay2 (F := Ideal) h w = A
  have m : ∀ l : Fin 512, (mulf A (broadcast S1024x512 (factor i : Ideal .f32)) : FVec Ideal S1024x512 .f32) (ix2 r l)
      = A (ix2 r l) * factor i := fun l => rfl
  rw [turned_at, rep_at, rep_at, rep_at, k, k, k, hc, ha, hb, m, m, m]
  generalize factor i = s
  have q : ∀ x y : Fin 512, x.val = y.val → A (ix2 r x) = A (ix2 r y) := fun x y h => by rw [Fin.ext h]
  unfold rope
  by_cases u : l.val % 128 < 16
  · simp only [u, dite_true, mul_zero, add_zero]
    rw [q l ⟨l.val / 128 * 128 + l.val % 128, by omega⟩ (by simp only []; omega),
      q ⟨(l.val + 16) % 512, by omega⟩ ⟨l.val / 128 * 128 + (l.val % 128 + 16), by omega⟩ (by simp only []; omega),
      mul_neg, sub_eq_add_neg]
  · by_cases v : l.val % 128 < 32
    · simp only [u, v, dite_true, dite_false, mul_zero, add_zero]
      rw [q l ⟨l.val / 128 * 128 + l.val % 128, by omega⟩ (by simp only []; omega),
        q ⟨(l.val + 496) % 512, by omega⟩ ⟨l.val / 128 * 128 + (l.val % 128 - 16), by omega⟩ (by simp only []; omega)]
    · simp only [u, v, dite_false, mul_zero, add_zero, mul_one]
      rw [q l ⟨l.val / 128 * 128 + l.val % 128, by omega⟩ (by simp only []; omega)]

end Cert.InProjKernel

end
-- ==== Proof.InProjRef.lean ====
/- The projection's reference at an index: the columns of the queries, the keys, the plain columns and the gates. -/
module

public import proofs.«01_k».proof.Proof.Gen.InProjReferenceIdeal.Read
public import proofs.«01_k».proof.Proof.InProjRow

@[expose] public section

set_option maxRecDepth 16384

noncomputable section

namespace Cert.InProjRef

open Idealize.ShloMosaic Cert.InProjReferenceIdeal Cert.InProjReferenceIdeal.Gen Cert.InProjReferenceIdeal.Read Cert.Rows Cert.InProjRow

variable (x : FVec Ideal S4x4096x2048 .f32) (g : FVec Ideal S2048 .f32) (w : FVec Ideal S2048x9216 .f32)

/-- The normed rows. -/
theorem norm_at (b : Fin 4) (s : Fin 4096) (e : Fin 2048) :
    val_main_v32 (F := Ideal) x g (ix3 b s e) = normed (fun j => x (ix3 b s j)) (fun j => g (ix1 j)) e := by
  pointwise [val_main_v32, val_main_v31, val_main_v30, val_main_v29, val_main_v28, val_main_v27, val_main_v26, val_main_v25,
    val_main_v24, val_main_v23, val_main_v22, val_main_v21, val_main_v20, val_main_cst_3, val_main_cst_4, val_main_cst_5, normed]

/-- A column's product with a normed row. -/
abbrev col (b : Fin 4) (s : Fin 4096) (c : Fin 9216) : EReal :=
  proj (fun j => x (ix3 b s j)) (fun j => g (ix1 j)) (fun d => w (ix2 d c))

theorem dot_at (b : Fin 4) (s : Fin 4096) (c : Fin 9216) :
    val_main_v33 (F := Ideal) x g w (ix3 b s c) = col x g w b s c := by
  have r : val_main_v33 (F := Ideal) x g w (ix3 b s c)
      = ∑ d : Fin 2048, val_main_v32 (F := Ideal) x g (ix3 b s d) * w (ix2 d c) := by
    unfold val_main_v33
    generalize val_main_v32 (F := Ideal) x g = y
    pointwise
  rw [r, col, proj]
  simp only [norm_at]

/-- The columns of the five pieces side by side. -/
abbrev joined (y₀ y₁ : FVec Ideal S4x4096x1536 .f32) (y₂ y₃ y₄ : FVec Ideal S4x4096x2048 .f32) : FVec Ideal S4x4096x9216 .f32 :=
  concatenate S4x4096x9216 2 [⟨S4x4096x1536, y₀⟩, ⟨S4x4096x1536, y₁⟩, ⟨S4x4096x2048, y₂⟩, ⟨S4x4096x2048, y₃⟩, ⟨S4x4096x2048, y₄⟩]
    concatenates_S4x4096x1536_S4x4096x1536_S4x4096x2048_S4x4096x2048_S4x4096x2048_S4x4096x9216_d2

variable (b : Fin 4) (s : Fin 4096)

theorem joined_at (y₀ y₁ : FVec Ideal S4x4096x1536 .f32) (y₂ y₃ y₄ : FVec Ideal S4x4096x2048 .f32) (c : Fin 9216) :
    joined y₀ y₁ y₂ y₃ y₄ (ix3 b s c)
      = if h : c.val < 1536 then y₀ (ix3 b s ⟨c.val, h⟩) else if h : c.val < 3072 then y₁ (ix3 b s ⟨c.val - 1536, by omega⟩)
        else if h : c.val < 5120 then y₂ (ix3 b s ⟨c.val - 3072, by omega⟩)
        else if h : c.val < 7168 then y₃ (ix3 b s ⟨c.val - 5120, by omega⟩) else y₄ (ix3 b s ⟨c.val - 7168, by omega⟩) := by
  pointwise [joined]
  have q : ∀ (y : FVec Ideal S4x4096x1536 .f32) (i j : Fin 1536), i.val = j.val → y (ix3 b s i) = y (ix3 b s j) :=
    fun y i j h => by rw [Fin.ext h]
  have q' : ∀ (y : FVec Ideal S4x4096x2048 .f32) (i j : Fin 2048), i.val = j.val → y (ix3 b s i) = y (ix3 b s j) :=
    fun y i j h => by rw [Fin.ext h]
  have p₁ : c.val < 1536 ∨ ¬c.val < 1536 := em _
  have p₂ : c.val < 3072 ∨ ¬c.val < 3072 := em _
  have p₃ : c.val < 5120 ∨ ¬c.val < 5120 := em _
  have p₄ : c.val < 7168 ∨ ¬c.val < 7168 := em _
  split_ifs
  all_goals rcases p₁ with p₁ | p₁
  all_goals rcases p₂ with p₂ | p₂
  all_goals rcases p₃ with p₃ | p₃
  all_goals rcases p₄ with p₄ | p₄
  all_goals try (exfalso; omega)
  all_goals simp only [dif_pos, dif_neg, p₁, p₂, p₃, p₄, not_false_eq_true]
  all_goals first | done | (refine q _ _ _ ?_; simp only []; omega) | (refine q' _ _ _ ?_; simp only []; omega)

/-- The result's rows are the batch's rows one after another. -/
theorem flat_at (c : Fin 9216) :
    val_main_v91 (F := Ideal) x g w (ix2 ⟨b.val * 4096 + s.val, by omega⟩ c) = val_main_v89 (F := Ideal) x g w (ix3 b s c) := by
  unfold val_main_v91 val_main_v90
  generalize val_main_v89 (F := Ideal) x g w = y
  pointwise

/-- The rotation of the heads, as the reference writes it. -/
abbrev turned (y : FVec Ideal S4x4096x6x2x128 .f32) : FVec Ideal S4x4096x6x2x128 .f32 :=
  have lo : FVec Ideal S4x4096x6x2x32 .f32 := extractStridedSlice S4x4096x6x2x32 ![0, 0, 0, 0, 0] y slices_S4x4096x6x2x128_S4x4096x6x2x32_0_0_0_0_0
  have hi : FVec Ideal S4x4096x6x2x96 .f32 := extractStridedSlice S4x4096x6x2x96 ![0, 0, 0, 0, 32] y slices_S4x4096x6x2x128_S4x4096x6x2x96_0_0_0_0_32
  have p : FVec Ideal S4x4096x6x2x16 .f32 := extractStridedSlice S4x4096x6x2x16 ![0, 0, 0, 0, 0] lo slices_S4x4096x6x2x32_S4x4096x6x2x16_0_0_0_0_0
  have q : FVec Ideal S4x4096x6x2x16 .f32 := extractStridedSlice S4x4096x6x2x16 ![0, 0, 0, 0, 16] lo slices_S4x4096x6x2x32_S4x4096x6x2x16_0_0_0_0_16
  concatenate S4x4096x6x2x128 4 [⟨S4x4096x6x2x32, concatenate S4x4096x6x2x32 4
      [⟨S4x4096x6x2x16, subf (mulf p (val_main_v56 (F := Ideal))) (mulf q (val_main_v58 (F := Ideal)))⟩,
        ⟨S4x4096x6x2x16, addf (mulf q (val_main_v61 (F := Ideal))) (mulf p (val_main_v63 (F := Ideal)))⟩]
      concatenates_S4x4096x6x2x16_S4x4096x6x2x16_S4x4096x6x2x32_d4⟩, ⟨S4x4096x6x2x96, hi⟩]
    concatenates_S4x4096x6x2x32_S4x4096x6x2x96_S4x4096x6x2x128_d4

/-- The cosines and the sines of a position's angles. -/
abbrev cs (s : Fin 4096) (k : Fin 16) : EReal := val_main_v16 (F := Ideal) (ix2 s k)
abbrev sn (s : Fin 4096) (k : Fin 16) : EReal := val_main_v18 (F := Ideal) (ix2 s k)

variable (n : Fin 6) (u : Fin 2)

theorem cos_at (k : Fin 16) : val_main_v56 (F := Ideal) (ix5 b s n u k) = cs s k := by
  unfold val_main_v56 val_main_v17
  rw [cs]
  generalize val_main_v16 (F := Ideal) = y
  pointwise
theorem sin_at (k : Fin 16) : val_main_v58 (F := Ideal) (ix5 b s n u k) = sn s k := by
  unfold val_main_v58 val_main_v19
  rw [sn]
  generalize val_main_v18 (F := Ideal) = y
  pointwise
theorem cos_at' (k : Fin 16) : val_main_v61 (F := Ideal) (ix5 b s n u k) = cs s k := cos_at b s n u k
theorem sin_at' (k : Fin 16) : val_main_v63 (F := Ideal) (ix5 b s n u k) = sn s k := sin_at b s n u k

theorem turned_at (y : FVec Ideal S4x4096x6x2x128 .f32) (d : Fin 128) :
    turned y (ix5 b s n u d) = rope (fun d => y (ix5 b s n u d)) (cs s) (sn s) d := by
  have c₀ := cos_at b s n u
  have s₀ := sin_at b s n u
  have c₁ := cos_at' b s n u
  have s₁ := sin_at' b s n u
  unfold turned rope
  generalize val_main_v56 (F := Ideal) = C₀ at *
  generalize val_main_v58 (F := Ideal) = S₀ at *
  generalize val_main_v61 (F := Ideal) = C₁ at *
  generalize val_main_v63 (F := Ideal) = S₁ at *
  pointwise
  have q : ∀ i j : Fin 128, i.val = j.val → y (ix5 b s n u i) = y (ix5 b s n u j) := fun i j h => by rw [Fin.ext h]
  simp only [c₀, s₀, c₁, s₁]
  by_cases h : d.val < 16
  · have h' : d.val < 32 := by omega
    simp only [h, h', dite_true]
    rw [q ⟨16 + d.val, by omega⟩ ⟨d.val + 16, by omega⟩ (by simp only []; omega)]
  · by_cases h' : d.val < 32
    · simp only [h, h', dite_true, dite_false]
      rw [q ⟨16 + (d.val - 16), by omega⟩ d (by simp only []; omega)]
    · simp only [h, h', dite_false]
      exact q _ _ (by simp only []; omega)

/-- The heads of the queries and of the keys, read from the columns. -/
theorem query_at (d : Fin 128) :
    val_main_v35 (F := Ideal) x g w (ix5 b s n u d) = col x g w b s ⟨n.val * 256 + u.val * 128 + d.val, by omega⟩ := by
  rw [← dot_at]
  unfold val_main_v35 val_main_v34
  generalize val_main_v33 (F := Ideal) x g w = y
  pointwise
theorem key_at (d : Fin 128) :
    val_main_v37 (F := Ideal) x g w (ix5 b s n u d) = col x g w b s ⟨1536 + (n.val * 256 + u.val * 128 + d.val), by omega⟩ := by
  rw [← dot_at]
  unfold val_main_v37 val_main_v36
  generalize val_main_v33 (F := Ideal) x g w = y
  pointwise

/-- The heads laid out as columns again. -/
theorem columns_at (y : FVec Ideal S4x4096x6x2x128 .f32) (k : Fin 1536) :
    shapeCast S4x4096x1536 y shapeCasts_S4x4096x6x2x128_S4x4096x1536 (ix3 b s k)
      = y (ix5 b s ⟨k.val / 256, by omega⟩ ⟨k.val / 128 % 2, by omega⟩ ⟨k.val % 128, by omega⟩) := by
  pointwise

/-- A query's column: rotated, then scaled. -/
theorem queries_at (k : Fin 1536) :
    val_main_v86 (F := Ideal) x g w (ix3 b s k)
      = rope (fun d => col x g w b s ⟨k.val / 128 * 128 + d.val, by omega⟩) (cs s) (sn s) ⟨k.val % 128, by omega⟩ * scale := by
  have e : val_main_v86 (F := Ideal) x g w
      = shapeCast S4x4096x1536 (mulf (turned (val_main_v35 (F := Ideal) x g w)) (val_main_v68 (F := Ideal)))
          shapeCasts_S4x4096x6x2x128_S4x4096x1536 := rfl
  rw [e, columns_at]
  refine congrArg₂ (· * ·) ?_ ?_
  · rw [turned_at]
    refine congrArg (fun a => rope a (cs s) (sn s) _) (funext fun d => ?_)
    rw [query_at]
    exact congrArg (col x g w b s) (Fin.ext (by simp only []; omega))
  · pointwise [val_main_v68, val_main_cst_10]

/-- A key's column: rotated. -/
theorem keys_at (k : Fin 1536) :
    val_main_v87 (F := Ideal) x g w (ix3 b s k)
      = rope (fun d => col x g w b s ⟨1536 + (k.val / 128 * 128 + d.val), by omega⟩) (cs s) (sn s) ⟨k.val % 128, by omega⟩ := by
  have e : val_main_v87 (F := Ideal) x g w
      = shapeCast S4x4096x1536 (turned (val_main_v37 (F := Ideal) x g w)) shapeCasts_S4x4096x6x2x128_S4x4096x1536 := rfl
  rw [e, columns_at, turned_at]
  refine congrArg (fun a => rope a (cs s) (sn s) _) (funext fun d => ?_)
  rw [key_at]
  exact congrArg (col x g w b s) (Fin.ext (by simp only []; omega))

/-- The columns kept as they are. -/
theorem plain_at (k : Fin 2048) :
    val_main_v88 (F := Ideal) x g w (ix3 b s k) = col x g w b s ⟨3072 + k.val, by omega⟩ := by
  rw [← dot_at]
  unfold val_main_v88
  generalize val_main_v33 (F := Ideal) x g w = y
  pointwise

/-- The gates of the attention and of the mixing branch. -/
theorem gate_at (k : Fin 2048) :
    val_main_v44 (F := Ideal) x g w (ix3 b s k) = Ideal.logistic (col x g w b s ⟨5120 + k.val, by omega⟩) := by
  rw [← dot_at, ← logistic_eq]
  unfold val_main_v44 val_main_v43 val_main_v42 val_main_v41 val_main_v40 val_main_v39 val_main_v38 val_main_cst_6 val_main_cst_7
  generalize val_main_v33 (F := Ideal) x g w = y
  pointwise
theorem gate_at' (k : Fin 2048) :
    val_main_v51 (F := Ideal) x g w (ix3 b s k) = Ideal.logistic (col x g w b s ⟨7168 + k.val, by omega⟩) := by
  rw [← dot_at, ← logistic_eq]
  unfold val_main_v51 val_main_v50 val_main_v49 val_main_v48 val_main_v47 val_main_v46 val_main_v45 val_main_cst_8 val_main_cst_9
  generalize val_main_v33 (F := Ideal) x g w = y
  pointwise

/-- The row of the flattened result that row `s` of batch `b` is. -/
abbrev flat : Fin 16384 := ⟨b.val * 4096 + s.val, by omega⟩

/-- The result is the five pieces side by side. -/
theorem result_at (c : Fin 9216) :
    val_main_v91 (F := Ideal) x g w (ix2 (flat b s) c)
      = joined (val_main_v86 (F := Ideal) x g w) (val_main_v87 (F := Ideal) x g w) (val_main_v88 (F := Ideal) x g w)
          (val_main_v44 (F := Ideal) x g w) (val_main_v51 (F := Ideal) x g w) (ix3 b s c) := flat_at x g w b s c

/-- A query's column of the result. -/
theorem result_query (c : Fin 9216) (h : c.val < 1536) :
    val_main_v91 (F := Ideal) x g w (ix2 (flat b s) c)
      = rope (fun d => col x g w b s ⟨c.val / 128 * 128 + d.val, by omega⟩ * scale) (cs s) (sn s) ⟨c.val % 128, by omega⟩ := by
  rw [result_at, joined_at, dif_pos h, queries_at, rope_mul _ _ _ _ _ scale_nonneg scale_ne_top]

/-- A key's column of the result. -/
theorem result_key (c : Fin 9216) (h : ¬c.val < 1536) (h' : c.val < 3072) :
    val_main_v91 (F := Ideal) x g w (ix2 (flat b s) c)
      = rope (fun d => col x g w b s ⟨c.val / 128 * 128 + d.val, by omega⟩) (cs s) (sn s) ⟨c.val % 128, by omega⟩ := by
  rw [result_at, joined_at, dif_neg h, dif_pos h', keys_at]
  have e : (⟨(c.val - 1536) % 128, by omega⟩ : Fin 128) = ⟨c.val % 128, by omega⟩ := Fin.ext (by simp only []; omega)
  simp only [e]
  refine congrArg (fun a => rope a (cs s) (sn s) _) (funext fun d => ?_)
  exact congrArg (col x g w b s) (Fin.ext (by simp only []; omega))

/-- A plain column of the result. -/
theorem result_plain (c : Fin 9216) (h : ¬c.val < 3072) (h' : c.val < 5120) :
    val_main_v91 (F := Ideal) x g w (ix2 (flat b s) c) = col x g w b s c := by
  rw [result_at, joined_at, dif_neg (by omega), dif_neg h, dif_pos h', plain_at]
  exact congrArg (col x g w b s) (Fin.ext (by simp only []; omega))

/-- A gate's column of the result. -/
theorem result_gate (c : Fin 9216) (h : ¬c.val < 5120) :
    val_main_v91 (F := Ideal) x g w (ix2 (flat b s) c) = Ideal.logistic (col x g w b s c) := by
  rw [result_at, joined_at, dif_neg (by omega), dif_neg (by omega), dif_neg h]
  split
  · rw [gate_at]
    exact congrArg (fun c => Ideal.logistic (col x g w b s c)) (Fin.ext (by simp only []; omega))
  · rw [gate_at']
    exact congrArg (fun c => Ideal.logistic (col x g w b s c)) (Fin.ext (by simp only []; omega))

end Cert.InProjRef

end
-- ==== Proof.InProjValue.lean ====
/- The projection kernel's result array is the reference's: the first of a run's eighteen points norms the rows, every point stores one block of columns. -/
module

public import proofs.«01_k».proof.Proof.Gen.InProjIdeal.Frame
public import proofs.«01_k».proof.Proof.InProjKernel
public import proofs.«01_k».proof.Proof.InProjRef
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

namespace Cert.InProjValue

open Idealize.ShloMosaic Idealize.ShloMosaic.TcCoe Idealize.SL.Sem
open Idealize.ShloMosaic.Pipeline (Dat)
open Cert.InProjIdeal Cert.InProjIdeal.Gen Cert.Rows Cert.InProjRow

variable (m : (ℓ : Loc nD τ sig) → Buf (Elt Ideal) ℓ)

/-- The layer's input, the norm's gain and the weights. -/
abbrev X (c : Dev nD) : FVec Ideal S4x4096x2048 .f32 := m ((c : Thread nD τ).loc main_arg0)
abbrev G (c : Dev nD) : FVec Ideal S2048 .f32 := m ((c : Thread nD τ).loc main_arg1)
abbrev W (c : Dev nD) : FVec Ideal S2048x9216 .f32 := m ((c : Thread nD τ).loc main_arg2)

/-- Which block of its array each window holds at a grid point: block of rows and block of columns. -/
theorem idx : ∀ t : Fin cfg0.N, win0_0.index t = ![t.val / 18, 0] ∧ win0_1.index t = ![0, 0]
    ∧ win0_2.index t = ![0, t.val % 18] ∧ win0_3.index t = ![t.val / 18 % 4, 0] ∧ win0_4.index t = ![t.val / 18 % 4, 0]
    ∧ win0_5.index t = ![t.val / 18 % 4, 0] ∧ win0_6.index t = ![t.val / 18, t.val % 18] :=
  (by decide +kernel : ∀ t : Fin grid0.N, _)

/-- The second grid coordinate. -/
theorem coord : ∀ t : Fin cfg0.N, (grid0.coords t 1).val = t.val % 18 := (by decide +kernel : ∀ t : Fin grid0.N, _)

theorem lt (t : Fin cfg0.N) : t.val < 288 := t.isLt

/-- The batch of a grid point. -/
abbrev bat (t : Fin cfg0.N) : Fin 4 := ⟨t.val / 72, by have := lt t; omega⟩
/-- The position that row `r` of a grid point's block is. -/
abbrev pos (t : Fin cfg0.N) (r : Fin 1024) : Fin 4096 := ⟨t.val / 18 % 4 * 1024 + r.val, by omega⟩
/-- The column that lane `l` of a grid point's block is. -/
abbrev lane (t : Fin cfg0.N) (l : Fin 512) : Fin 9216 := ⟨t.val % 18 * 512 + l.val, by omega⟩

theorem rows (c : Dev nD) (t : Fin cfg0.N) (r : Fin 1024) (d : Fin 2048) :
    (iblk m c 0 t : FVec Ideal S1024x2048 .f32) (ix2 r d) = X m c (ix3 (bat t) (pos t r) d) := by
  have e : V m c main_v26 = shapeCast S16384x2048 (X m c) shapeCasts_S4x4096x2048_S16384x2048 := by
    unfold V; after_results; try rfl
  have k : ∀ (y : FVec Ideal S4x4096x2048 .f32) (b : Fin 4) (s : Fin 4096) (d : Fin 2048),
      shapeCast S16384x2048 y shapeCasts_S4x4096x2048_S16384x2048 (ix2 ⟨b.val * 4096 + s.val, by omega⟩ d) = y (ix3 b s d) :=
    fun y b s d => by pointwise
  refine Eq.trans ?_ ((congrFun e (ix2 ⟨(bat t).val * 4096 + (pos t r).val, by omega⟩ d)).trans (k _ (bat t) (pos t r) d))
  have := lt t
  blk_ext [iblk, idx t]
theorem gain (c : Dev nD) (t : Fin cfg0.N) (d : Fin 2048) :
    (iblk m c 1 t : FVec Ideal S1x2048 .f32) (ix2 0 d) = G m c (ix1 d) := by
  blk_point [iblk, idx t]
theorem weight (c : Dev nD) (t : Fin cfg0.N) (d : Fin 2048) (l : Fin 512) :
    (iblk m c 2 t : FVec Ideal S2048x512 .bf16) (ix2 d l) = W m c (ix2 d (lane t l)) := by
  blk_point [iblk, idx t]

/-- The three tables of the kernel, from the cosines and the sines. -/
abbrev cosTable (y : FVec Ideal S4096x16 .f32) : FVec Ideal S4096x128 .f32 :=
  concatenate S4096x128 1 [⟨S4096x16, y⟩, ⟨S4096x16, y⟩,
    ⟨S4096x96, broadcastInDim S4096x96 ![] bcast_S_S4096x96 (constant S_ .f32 0x3F800000#32)⟩]
    concatenates_S4096x16_S4096x16_S4096x96_S4096x128_d1
abbrev upTable (y : FVec Ideal S4096x16 .f32) : FVec Ideal S4096x128 .f32 :=
  concatenate S4096x128 1 [⟨S4096x16, Host.negf y⟩,
    ⟨S4096x112, broadcastInDim S4096x112 ![] bcast_S_S4096x112 (constant S_ .f32 0x00000000#32)⟩]
    concatenates_S4096x16_S4096x112_S4096x128_d1
abbrev downTable (y : FVec Ideal S4096x16 .f32) : FVec Ideal S4096x128 .f32 :=
  concatenate S4096x128 1 [⟨S4096x16, broadcastInDim S4096x16 ![] bcast_S_S4096x16 (constant S_ .f32 0x00000000#32)⟩,
    ⟨S4096x16, y⟩, ⟨S4096x96, broadcastInDim S4096x96 ![] bcast_S_S4096x96 (constant S_ .f32 0x00000000#32)⟩]
    concatenates_S4096x16_S4096x16_S4096x96_S4096x128_d1

theorem cosTable_at (y : FVec Ideal S4096x16 .f32) (s : Fin 4096) (d : Fin 128) :
    cosTable y (ix2 s d) = if u : d.val < 16 then y (ix2 s ⟨d.val, u⟩)
      else if v : d.val < 32 then y (ix2 s ⟨d.val - 16, by omega⟩) else 1 := by
  pointwise [cosTable]
  have p : d.val < 32 ∨ ¬d.val < 32 := em _
  split_ifs
  all_goals rcases p with p | p
  all_goals try (exfalso; omega)
  all_goals first | rfl | (simp only [p, dif_pos]; done)
theorem upTable_at (y : FVec Ideal S4096x16 .f32) (s : Fin 4096) (d : Fin 128) :
    upTable y (ix2 s d) = if u : d.val < 16 then -y (ix2 s ⟨d.val, u⟩) else 0 := by
  pointwise [upTable]
theorem downTable_at (y : FVec Ideal S4096x16 .f32) (s : Fin 4096) (d : Fin 128) :
    downTable y (ix2 s d) = if u : d.val < 16 then 0
      else if v : d.val < 32 then y (ix2 s ⟨d.val - 16, by omega⟩) else 0 := by
  pointwise [downTable]
  have p : d.val < 32 ∨ ¬d.val < 32 := em _
  split_ifs
  all_goals rcases p with p | p
  all_goals try (exfalso; omega)
  all_goals first | rfl | (simp only [p, dif_pos]; done)

/-- The kernel's tables are those of the reference's cosines and sines. -/
theorem table₀ (c : Dev nD) : V m c main_v19 = cosTable (Cert.InProjReferenceIdeal.Read.val_main_v16 (F := Ideal)) := by
  unfold V; after_results; try rfl
theorem table₁ (c : Dev nD) : V m c main_v22 = upTable (Cert.InProjReferenceIdeal.Read.val_main_v18 (F := Ideal)) := by
  unfold V; after_results; try rfl
theorem table₂ (c : Dev nD) : V m c main_v25 = downTable (Cert.InProjReferenceIdeal.Read.val_main_v18 (F := Ideal)) := by
  unfold V; after_results; try rfl

theorem cos_at (c : Dev nD) (t : Fin cfg0.N) (r : Fin 1024) (d : Fin 128) :
    (iblk m c 3 t : FVec Ideal S1024x128 .f32) (ix2 r d)
      = if u : d.val < 16 then InProjRef.cs (pos t r) ⟨d.val, u⟩
        else if v : d.val < 32 then InProjRef.cs (pos t r) ⟨d.val - 16, by omega⟩ else 1 := by
  refine Eq.trans ?_ ((congrFun (table₀ m c) (ix2 (pos t r) d)).trans (cosTable_at _ (pos t r) d))
  blk_ext [iblk, idx t]
theorem up_at (c : Dev nD) (t : Fin cfg0.N) (r : Fin 1024) (d : Fin 128) :
    (iblk m c 4 t : FVec Ideal S1024x128 .f32) (ix2 r d)
      = if u : d.val < 16 then -InProjRef.sn (pos t r) ⟨d.val, u⟩ else 0 := by
  refine Eq.trans ?_ ((congrFun (table₁ m c) (ix2 (pos t r) d)).trans (upTable_at _ (pos t r) d))
  blk_ext [iblk, idx t]
theorem down_at (c : Dev nD) (t : Fin cfg0.N) (r : Fin 1024) (d : Fin 128) :
    (iblk m c 5 t : FVec Ideal S1024x128 .f32) (ix2 r d)
      = if u : d.val < 16 then 0
        else if v : d.val < 32 then InProjRef.sn (pos t r) ⟨d.val - 16, by omega⟩ else 0 := by
  refine Eq.trans ?_ ((congrFun (table₂ m c) (ix2 (pos t r) d)).trans (downTable_at _ (pos t r) d))
  blk_ext [iblk, idx t]

/-- The normed row of a grid point. -/
abbrev normRow (c : Dev nD) (t : Fin cfg0.N) (r : Fin 1024) : Fin 2048 → EReal :=
  normed (fun j => X m c (ix3 (bat t) (pos t r) j)) (fun j => G m c (ix1 j))

/-- What a run's first point leaves in the scratch array. -/
theorem held_start (c : Dev nD) (t : Fin cfg0.N) (h : t.val % 18 = 0) :
    (outsAt0 m c t.val t.isLt).2 = k0_pay1 (F := Ideal) (iblk m c 0 t) (iblk m c 1 t) := by
  rw [outsAt0_A m c t h (by omega) (by omega) (by omega)]; frame_out

/-- A later point leaves it as it was. -/
theorem held_step (c : Dev nD) (t : Fin cfg0.N) (h : ¬t.val % 18 = 0) :
    (outsAt0 m c t.val t.isLt).2 = (outsAt0 m c (t.val - 1) (Nat.lt_of_le_of_lt (Nat.sub_le _ _) t.isLt)).2 := by
  by_cases l : t.val % 18 ≤ 5
  · rw [outsAt0_B m c t h l (by omega) (by omega)]; rfl
  · by_cases u : t.val % 18 ≤ 9
    · rw [outsAt0_C m c t h l (by omega) (by omega)]; rfl
    · rw [outsAt0_D m c t h l (by omega) (by omega)]; rfl

/-- The scratch array holds the normed rows at every point. -/
theorem held (c : Dev nD) (r : Fin 1024) (d : Fin 2048) : ∀ (n : ℕ) (h : n < cfg0.N),
    (outsAt0 m c n h).2 (ix2 r d) = normRow m c ⟨n, h⟩ r d := by
  intro n
  induction n with
  | zero =>
    intro h
    rw [held_start m c ⟨0, h⟩ rfl, InProjKernel.norm_at]
    simp only [rows m c, gain m c]
  | succ k ih =>
    intro h
    by_cases z : (k + 1) % 18 = 0
    · rw [held_start m c ⟨k + 1, h⟩ z, InProjKernel.norm_at]
      simp only [rows m c, gain m c]
    · rw [held_step m c ⟨k + 1, h⟩ z]
      refine (ih (Nat.lt_of_succ_lt h)).trans ?_
      have b : bat ⟨k, Nat.lt_of_succ_lt h⟩ = bat ⟨k + 1, h⟩ := Fin.ext (by simp only []; omega)
      have p : pos ⟨k, Nat.lt_of_succ_lt h⟩ r = pos ⟨k + 1, h⟩ r := Fin.ext (by simp only []; omega)
      rw [normRow, normRow, b, p]

/-- The product of a grid point's rows with its columns. -/
theorem dot_at (c : Dev nD) (t : Fin cfg0.N) (r : Fin 1024) (l : Fin 512) :
    ∑ d : Fin 2048, (outsAt0 m c t.val t.isLt).2 (ix2 r d) * (iblk m c 2 t : FVec Ideal S2048x512 .bf16) (ix2 d l)
      = InProjRef.col (X m c) (G m c) (W m c) (bat t) (pos t r) (lane t l) := by
  rw [InProjRef.col, proj]
  refine Finset.sum_congr rfl fun d _ => ?_
  rw [weight m c t d l]
  exact congrArg (· * _) (held m c r d t.val t.isLt)

/-- What a point of the queries or the keys stores. -/
theorem out_rope (c : Dev nD) (t : Fin cfg0.N) (h : t.val % 18 ≤ 5) :
    (outsAt0 m c t.val t.isLt).1
      = k0_pay3 (F := Ideal) (grid0.coords t) (outsAt0 m c t.val t.isLt).2 (iblk m c 2 t) (iblk m c 3 t) (iblk m c 4 t)
          (iblk m c 5 t) := by
  by_cases z : t.val % 18 = 0
  · rw [held_start m c t z, outsAt0_A m c t z h (by omega) (by omega)]; frame_out
  · rw [held_step m c t z, outsAt0_B m c t z h (by omega) (by omega)]; frame_out; rw [read_unread_whole]

/-- What a point of the plain columns stores. -/
theorem out_plain (c : Dev nD) (t : Fin cfg0.N) (h : ¬t.val % 18 ≤ 5) (h' : t.val % 18 ≤ 9) :
    (outsAt0 m c t.val t.isLt).1 = k0_pay4 (F := Ideal) (outsAt0 m c t.val t.isLt).2 (iblk m c 2 t) := by
  rw [held_step m c t (by omega), outsAt0_C m c t (by omega) h (by omega) (by omega)]; frame_out; rw [read_unread_whole]

/-- What a point of the gates stores. -/
theorem out_gate (c : Dev nD) (t : Fin cfg0.N) (h : ¬t.val % 18 ≤ 9) :
    (outsAt0 m c t.val t.isLt).1 = k0_pay5 (F := Ideal) (outsAt0 m c t.val t.isLt).2 (iblk m c 2 t) := by
  rw [held_step m c t (by omega), outsAt0_D m c t (by omega) (by omega) (by omega) (by omega)]; frame_out; rw [read_unread_whole]

/-- The reference's result over the kernel's arguments. -/
abbrev REF (c : Dev nD) : FVec Ideal S16384x9216 .bf16 :=
  Cert.InProjReferenceIdeal.Read.val_main_v91 (F := Ideal) (X m c) (G m c) (W m c)

/-- What a grid point stores is the reference's result where its block lies. -/
theorem point (c : Dev nD) (t : Fin cfg0.N) (r : Fin 1024) (l : Fin 512) :
    (outsAt0 m c t.val t.isLt).1 (ix2 r l) = REF m c (ix2 (InProjRef.flat (bat t) (pos t r)) (lane t l)) := by
  by_cases h : t.val % 18 ≤ 5
  · rw [out_rope m c t h, InProjKernel.rope_at _ _ _ _ _ _ r (InProjRef.cs (pos t r)) (InProjRef.sn (pos t r))
      (cos_at m c t r) (up_at m c t r) (down_at m c t r) l, InProjKernel.factor_eq, coord t]
    have e : (⟨(lane t l).val % 128, by omega⟩ : Fin 128) = ⟨l.val % 128, by omega⟩ := Fin.ext (by simp only []; omega)
    have k : ∀ d : Fin 128, k0_pay2 (F := Ideal) (outsAt0 m c t.val t.isLt).2 (iblk m c 2 t)
          (ix2 r ⟨l.val / 128 * 128 + d.val, by omega⟩)
        = InProjRef.col (X m c) (G m c) (W m c) (bat t) (pos t r) ⟨(lane t l).val / 128 * 128 + d.val, by omega⟩ := fun d => by
      rw [InProjKernel.dot_at, dot_at m c t]
      exact congrArg (InProjRef.col (X m c) (G m c) (W m c) (bat t) (pos t r)) (Fin.ext (by simp only []; omega))
    simp only [k]
    by_cases z : t.val % 18 < 3
    · rw [REF, InProjRef.result_query _ _ _ _ _ _ (by simp only []; omega), e, if_pos z]
    · rw [REF, InProjRef.result_key _ _ _ _ _ _ (by simp only []; omega) (by simp only []; omega), e, if_neg z]
      simp only [mul_one]
  · by_cases h' : t.val % 18 ≤ 9
    · rw [out_plain m c t h h', InProjKernel.plain_at, dot_at m c t, REF,
        InProjRef.result_plain _ _ _ _ _ _ (by simp only []; omega) (by simp only []; omega)]
    · rw [out_gate m c t h', InProjKernel.gate_at, dot_at m c t, REF,
        InProjRef.result_gate _ _ _ _ _ _ (by simp only []; omega)]

/-- THE RESULT ARRAY after the run is the reference's. -/
theorem final (c : Dev nD) : (dats m 0 c).arrAt 6 (cfgs 0).N = REF m c := by
  refine (dats m 0 c).arrAt_eq_of_covers 6 _ (by decide +kernel) fun t hf y => ?_
  blk_simp
  rw [after0_6]
  have e₀ : y = ix2 (y 0) (y 1) := by blk_ext []
  rw [e₀]
  refine (point m c t (y 0) (y 1)).trans (congrArg (REF m c) ?_)
  have := lt t
  blk_ext [idx t]

end Cert.InProjValue

end
-- ==== Proof.MergeKernel.lean ====
/- What one grid point of the merge kernel computes from its blocks. -/
module

public import proofs.«01_k».proof.Proof.Gen.MergeIdeal.Skeleton
public import proofs.«01_k».proof.Proof.Rows

@[expose] public section

set_option maxRecDepth 16384

noncomputable section

namespace Cert.MergeKernel

open Idealize.ShloMosaic Cert.MergeIdeal Cert.MergeIdeal.Gen Cert.Rows

/-- One merged column of a row: each branch's product times its gate. -/
def mixed (o wa : Fin 1536 → EReal) (fm wf : Fin 512 → EReal) (ga gf : EReal) : EReal :=
  ga * (∑ d, o d * wa d) + gf * (∑ d, fm d * wf d)

/-- A merged column times a weight depends on its parts alone. -/
theorem mixed_congr {o o' wa wa' : Fin 1536 → EReal} {fm fm' wf wf' : Fin 512 → EReal} {ga ga' gf gf' w w' : EReal}
    (ho : ∀ d, o d = o' d) (ha : ∀ d, wa d = wa' d) (hm : ∀ d, fm d = fm' d) (hf : ∀ d, wf d = wf' d) (h : ga = ga')
    (h' : gf = gf') (hw : w = w') : mixed o wa fm wf ga gf * w = mixed o' wa' fm' wf' ga' gf' * w' := by
  rw [funext ho, funext ha, funext hm, funext hf, h, h', hw]

variable (o : FVec Ideal S512x1536 .bf16) (fm : FVec Ideal S512x512 .bf16)

/-- The first half of the merged columns, through its part of the last product, added to the residual. -/
theorem first_at (x : FVec Ideal S512x2048 .f32) (wa : FVec Ideal S1536x1024 .bf16) (wf ga gf : FVec Ideal S512x1024 .bf16)
    (wo : FVec Ideal S1024x2048 .bf16) (r : Fin 512) (e : Fin 2048) :
    k0_pay5 (F := Ideal) o fm x wa wf ga gf wo (ix2 r e)
      = x (ix2 r e) + ∑ f : Fin 1024, mixed (fun d => o (ix2 r d)) (fun d => wa (ix2 d f)) (fun d => fm (ix2 r d))
          (fun d => wf (ix2 d f)) (ga (ix2 r f)) (gf (ix2 r f)) * wo (ix2 f e) := by
  pointwise [k0_pay5, k0_pay4, k0_pay3, mixed]

/-- The products of the second half. -/
theorem branch_at (wa : FVec Ideal S1536x1024 .bf16) (r : Fin 512) (f : Fin 1024) :
    k0_pay6 (F := Ideal) o wa (ix2 r f) = ∑ d : Fin 1536, o (ix2 r d) * wa (ix2 d f) := by
  pointwise [k0_pay6, k0_pay3]
theorem branch_at' (wf : FVec Ideal S512x1024 .bf16) (r : Fin 512) (f : Fin 1024) :
    k0_pay7 (F := Ideal) fm wf (ix2 r f) = ∑ d : Fin 512, fm (ix2 r d) * wf (ix2 d f) := by
  pointwise [k0_pay7, k0_pay4]

/-- The second half's part of the last product, added to what the first half left. -/
theorem second_at (x : FVec Ideal S512x2048 .f32) (a b ga : FVec Ideal S512x1024 .f32) (gf : FVec Ideal S512x1024 .bf16)
    (wo : FVec Ideal S1024x2048 .bf16) (r : Fin 512) (e : Fin 2048) :
    k0_pay1 (F := Ideal) x a b ga gf wo (ix2 r e)
      = x (ix2 r e) + ∑ f : Fin 1024, (ga (ix2 r f) * a (ix2 r f) + gf (ix2 r f) * b (ix2 r f)) * wo (ix2 f e) := by
  pointwise [k0_pay1]

/-- The norm of that sum. -/
theorem norm_at (x : FVec Ideal S512x2048 .f32) (a b ga : FVec Ideal S512x1024 .f32) (gf : FVec Ideal S512x1024 .bf16)
    (wo : FVec Ideal S1024x2048 .bf16) (g : FVec Ideal S1x2048 .f32) (r : Fin 512) (e : Fin 2048) :
    k0_pay2 (F := Ideal) x a b ga gf wo g (ix2 r e)
      = normed (fun j => k0_pay1 (F := Ideal) x a b ga gf wo (ix2 r j)) (fun j => g (ix2 0 j)) e := by
  unfold k0_pay2
  generalize k0_pay1 (F := Ideal) x a b ga gf wo = y
  pointwise [normed]

/-- Both halves from the blocks' columns. -/
theorem both_at (x : FVec Ideal S512x2048 .f32) (wa wa' : FVec Ideal S1536x1024 .bf16)
    (wf wf' ga ga' gf gf' : FVec Ideal S512x1024 .bf16) (wo wo' : FVec Ideal S1024x2048 .bf16) (r : Fin 512) (e : Fin 2048) :
    k0_pay1 (F := Ideal) (k0_pay5 o fm x wa wf ga gf wo) (k0_pay6 o wa') (k0_pay7 fm wf') (k0_pay8 ga') gf' wo' (ix2 r e)
      = x (ix2 r e) + (∑ f : Fin 1024, mixed (fun d => o (ix2 r d)) (fun d => wa (ix2 d f)) (fun d => fm (ix2 r d))
          (fun d => wf (ix2 d f)) (ga (ix2 r f)) (gf (ix2 r f)) * wo (ix2 f e)
        + ∑ f : Fin 1024, mixed (fun d => o (ix2 r d)) (fun d => wa' (ix2 d f)) (fun d => fm (ix2 r d))
          (fun d => wf' (ix2 d f)) (ga' (ix2 r f)) (gf' (ix2 r f)) * wo' (ix2 f e)) := by
  rw [second_at, first_at, add_assoc]
  simp only [branch_at, branch_at', mixed]
  rfl

end Cert.MergeKernel

end
-- ==== Proof.MergeRef.lean ====
/- The merge reference's two results at an index. -/
module

public import proofs.«01_k».proof.Proof.Gen.MergeReferenceIdeal.Read
public import proofs.«01_k».proof.Proof.MergeKernel

@[expose] public section

set_option maxRecDepth 16384

noncomputable section

namespace Cert.MergeRef

open Idealize.ShloMosaic Cert.MergeReferenceIdeal Cert.MergeReferenceIdeal.Gen Cert.MergeReferenceIdeal.Read Cert.Rows Cert.MergeKernel

variable (o : FVec Ideal S4x4096x1536 .bf16) (fm : FVec Ideal S4x4096x512 .bf16) (z : FVec Ideal S16384x9216 .bf16)
  (x : FVec Ideal S4x4096x2048 .f32) (wa : FVec Ideal S1536x2048 .f32) (wf : FVec Ideal S512x2048 .f32)
  (wo : FVec Ideal S2048x2048 .f32) (g : FVec Ideal S2048 .f32) (b : Fin 4) (s : Fin 4096)

/-- The row of the flattened arrays that a position of a batch is. -/
abbrev flat (b : Fin 4) (s : Fin 4096) : Fin 16384 := ⟨b.val * 4096 + s.val, by omega⟩

/-- The flattened rows are the batch's rows one after another. -/
theorem flat_at (y : FVec Ideal S4x4096x2048 .f32) (e : Fin 2048) :
    shapeCast S16384x2048 y shapeCasts_S4x4096x2048_S16384x2048 (ix2 ⟨b.val * 4096 + s.val, by omega⟩ e) = y (ix3 b s e) := by
  pointwise

theorem gate_at (f : Fin 2048) : val_main_v2 (F := Ideal) z (ix3 b s f) = z (ix2 (flat b s) ⟨5120 + f.val, by omega⟩) := by
  pointwise [val_main_v2, val_main_v1, val_main_v0]
theorem gate_at' (f : Fin 2048) : val_main_v3 (F := Ideal) z (ix3 b s f) = z (ix2 (flat b s) ⟨7168 + f.val, by omega⟩) := by
  pointwise [val_main_v3, val_main_v1, val_main_v0]
theorem branch_at (f : Fin 2048) :
    val_main_v5 (F := Ideal) o wa (ix3 b s f) = ∑ d : Fin 1536, o (ix3 b s d) * wa (ix2 d f) := by
  pointwise [val_main_v5, val_main_v4]
theorem branch_at' (f : Fin 2048) :
    val_main_v7 (F := Ideal) fm wf (ix3 b s f) = ∑ d : Fin 512, fm (ix3 b s d) * wf (ix2 d f) := by
  pointwise [val_main_v7, val_main_v6]

/-- A merged column of a row. -/
abbrev col (f : Fin 2048) : EReal :=
  mixed (fun d => o (ix3 b s d)) (fun d => wa (ix2 d f)) (fun d => fm (ix3 b s d)) (fun d => wf (ix2 d f))
    (z (ix2 (flat b s) ⟨5120 + f.val, by omega⟩)) (z (ix2 (flat b s) ⟨7168 + f.val, by omega⟩))

theorem col_at (f : Fin 2048) : val_main_v10 (F := Ideal) o fm z wa wf (ix3 b s f) = col o fm z wa wf b s f := by
  rw [val_main_v10_apply, val_main_v8_apply, val_main_v9_apply, gate_at, gate_at', branch_at, branch_at', col, mixed]
  rfl

/-- The residual plus the last product. -/
abbrev total (e : Fin 2048) : EReal := x (ix3 b s e) + ∑ f : Fin 2048, col o fm z wa wf b s f * wo (ix2 f e)

theorem total_at (e : Fin 2048) :
    val_main_v12 (F := Ideal) o fm z x wa wf wo (ix3 b s e) = total o fm z x wa wf wo b s e := by
  have r : val_main_v11 (F := Ideal) o fm z wa wf wo (ix3 b s e)
      = ∑ f : Fin 2048, val_main_v10 (F := Ideal) o fm z wa wf (ix3 b s f) * wo (ix2 f e) := by
    unfold val_main_v11
    generalize val_main_v10 (F := Ideal) o fm z wa wf = y
    pointwise
  rw [val_main_v12_apply, r, total]
  simp only [col_at]
  rfl

/-- The first result: that sum. -/
theorem sum_at (e : Fin 2048) :
    val_main_v13 (F := Ideal) o fm z x wa wf wo (ix2 (flat b s) e) = total o fm z x wa wf wo b s e := by
  rw [← total_at]
  exact flat_at b s _ e

/-- The second result: the norm of that sum. -/
theorem norm_at (e : Fin 2048) :
    val_main_v28 (F := Ideal) o fm z x wa wf wo g (ix2 (flat b s) e)
      = normed (total o fm z x wa wf wo b s) (fun j => g (ix1 j)) e := by
  have r : val_main_v28 (F := Ideal) o fm z x wa wf wo g (ix2 (flat b s) e)
      = val_main_v26 (F := Ideal) o fm z x wa wf wo g (ix3 b s e) :=
    flat_at b s (val_main_v26 (F := Ideal) o fm z x wa wf wo g) e
  have n : val_main_v26 (F := Ideal) o fm z x wa wf wo g (ix3 b s e)
      = normed (fun j => val_main_v12 (F := Ideal) o fm z x wa wf wo (ix3 b s j)) (fun j => g (ix1 j)) e := by
    pointwise [val_main_v26, val_main_v25, val_main_v24, val_main_v23, val_main_v22, val_main_v21, val_main_v20, val_main_v19,
      val_main_v18, val_main_v17, val_main_v16, val_main_v15, val_main_v14, val_main_cst, val_main_cst_0, val_main_cst_1, normed]
  rw [r, n]
  simp only [total_at]

end Cert.MergeRef

end
-- ==== Proof.MergeValue.lean ====
/- The merge kernel's two result arrays are the reference's: each grid point stores the rows that the reference has there. -/
module

public import proofs.«01_k».proof.Proof.Gen.MergeIdeal.Frame
public import proofs.«01_k».proof.Proof.MergeKernel
public import proofs.«01_k».proof.Proof.MergeRef
public import proofs.«01_k».proof.Defs
public import Idealize.ShloMosaic.Lib.Pipeline.ValueKit
public import Idealize.ShloMosaic.Lib.Claim

@[expose] public section

set_option maxRecDepth 16384

noncomputable section

namespace Cert.MergeValue

open Idealize.ShloMosaic Idealize.ShloMosaic.TcCoe Idealize.SL.Sem
open Idealize.ShloMosaic.Pipeline (Dat)
open Cert.MergeIdeal Cert.MergeIdeal.Gen Cert.Rows Cert.MergeKernel

variable (m : (ℓ : Loc nD τ sig) → Buf (Elt Ideal) ℓ)

/-- The attention's rows, the Fourier branch's rows, the projected rows (for the gates), the layer's input, the three weights and the gain. -/
abbrev O (c : Dev nD) : FVec Ideal S4x4096x1536 .bf16 := m ((c : Thread nD τ).loc main_arg0)
abbrev M (c : Dev nD) : FVec Ideal S4x4096x512 .bf16 := m ((c : Thread nD τ).loc main_arg1)
abbrev Z (c : Dev nD) : FVec Ideal S16384x9216 .bf16 := m ((c : Thread nD τ).loc main_arg2)
abbrev X (c : Dev nD) : FVec Ideal S4x4096x2048 .f32 := m ((c : Thread nD τ).loc main_arg3)
abbrev WA (c : Dev nD) : FVec Ideal S1536x2048 .f32 := m ((c : Thread nD τ).loc main_arg4)
abbrev WF (c : Dev nD) : FVec Ideal S512x2048 .f32 := m ((c : Thread nD τ).loc main_arg5)
abbrev WO (c : Dev nD) : FVec Ideal S2048x2048 .f32 := m ((c : Thread nD τ).loc main_arg6)
abbrev G (c : Dev nD) : FVec Ideal S2048 .f32 := m ((c : Thread nD τ).loc main_arg7)

/-- Which block of its array each window holds at a grid point. -/
theorem idx : ∀ t : Fin cfg0.N, win0_0.index t = ![t.val, 0] ∧ win0_1.index t = ![t.val, 0] ∧ win0_2.index t = ![t.val, 5]
    ∧ win0_3.index t = ![t.val, 6] ∧ win0_4.index t = ![t.val, 7] ∧ win0_5.index t = ![t.val, 8] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] :=
  (by decide +kernel : ∀ t : Fin grid0.N, _)

theorem lt (t : Fin cfg0.N) : t.val < 32 := t.isLt

/-- The batch of a grid point. -/
abbrev bat (t : Fin cfg0.N) : Fin 4 := ⟨t.val / 8, by have := lt t; omega⟩
/-- The position that row `r` of a grid point's block is. -/
abbrev pos (t : Fin cfg0.N) (r : Fin 512) : Fin 4096 := ⟨t.val % 8 * 512 + r.val, by omega⟩

theorem rows (c : Dev nD) (t : Fin cfg0.N) (r : Fin 512) (d : Fin 1536) :
    (iblk m c 0 t : FVec Ideal S512x1536 .bf16) (ix2 r d) = O m c (ix3 (bat t) (pos t r) d) := by
  have e : V m c main_v0 = shapeCast S16384x1536 (O m c) shapeCasts_S4x4096x1536_S16384x1536 := by
    unfold V; after_results; try rfl
  have k : ∀ (y : FVec Ideal S4x4096x1536 .bf16) (b : Fin 4) (s : Fin 4096) (d : Fin 1536),
      shapeCast S16384x1536 y shapeCasts_S4x4096x1536_S16384x1536 (ix2 ⟨b.val * 4096 + s.val, by omega⟩ d) = y (ix3 b s d) :=
    fun y b s d => by pointwise
  refine Eq.trans ?_ ((congrFun e (ix2 (MergeRef.flat (bat t) (pos t r)) d)).trans (k _ (bat t) (pos t r) d))
  have := lt t
  blk_ext [iblk, idx t]
theorem rows' (c : Dev nD) (t : Fin cfg0.N) (r : Fin 512) (d : Fin 512) :
    (iblk m c 1 t : FVec Ideal S512x512 .bf16) (ix2 r d) = M m c (ix3 (bat t) (pos t r) d) := by
  have e : V m c main_v1 = shapeCast S16384x512 (M m c) shapeCasts_S4x4096x512_S16384x512 := by
    unfold V; after_results; try rfl
  have k : ∀ (y : FVec Ideal S4x4096x512 .bf16) (b : Fin 4) (s : Fin 4096) (d : Fin 512),
      shapeCast S16384x512 y shapeCasts_S4x4096x512_S16384x512 (ix2 ⟨b.val * 4096 + s.val, by omega⟩ d) = y (ix3 b s d) :=
    fun y b s d => by pointwise
  refine Eq.trans ?_ ((congrFun e (ix2 (MergeRef.flat (bat t) (pos t r)) d)).trans (k _ (bat t) (pos t r) d))
  have := lt t
  blk_ext [iblk, idx t]
theorem resid (c : Dev nD) (t : Fin cfg0.N) (r : Fin 512) (d : Fin 2048) :
    (iblk m c 6 t : FVec Ideal S512x2048 .f32) (ix2 r d) = X m c (ix3 (bat t) (pos t r) d) := by
  have e : V m c main_v2 = shapeCast S16384x2048 (X m c) shapeCasts_S4x4096x2048_S16384x2048 := by
    unfold V; after_results; try rfl
  have k : ∀ (y : FVec Ideal S4x4096x2048 .f32) (b : Fin 4) (s : Fin 4096) (d : Fin 2048),
      shapeCast S16384x2048 y shapeCasts_S4x4096x2048_S16384x2048 (ix2 ⟨b.val * 4096 + s.val, by omega⟩ d) = y (ix3 b s d) :=
    fun y b s d => by pointwise
  refine Eq.trans ?_ ((congrFun e (ix2 (MergeRef.flat (bat t) (pos t r)) d)).trans (k _ (bat t) (pos t r) d))
  have := lt t
  blk_ext [iblk, idx t]

theorem gate₂ (c : Dev nD) (t : Fin cfg0.N) (r : Fin 512) (f : Fin 1024) :
    (iblk m c 2 t : FVec Ideal S512x1024 .bf16) (ix2 r f)
      = Z m c (ix2 (MergeRef.flat (bat t) (pos t r)) ⟨5120 + f.val, by omega⟩) := by
  have := lt t
  blk_ext [iblk, V, idx t]
theorem gate₃ (c : Dev nD) (t : Fin cfg0.N) (r : Fin 512) (f : Fin 1024) :
    (iblk m c 3 t : FVec Ideal S512x1024 .bf16) (ix2 r f)
      = Z m c (ix2 (MergeRef.flat (bat t) (pos t r)) ⟨5120 + (1024 + f.val), by omega⟩) := by
  have := lt t
  blk_ext [iblk, V, idx t]
theorem gate₄ (c : Dev nD) (t : Fin cfg0.N) (r : Fin 512) (f : Fin 1024) :
    (iblk m c 4 t : FVec Ideal S512x1024 .bf16) (ix2 r f)
      = Z m c (ix2 (MergeRef.flat (bat t) (pos t r)) ⟨7168 + f.val, by omega⟩) := by
  have := lt t
  blk_ext [iblk, V, idx t]
theorem gate₅ (c : Dev nD) (t : Fin cfg0.N) (r : Fin 512) (f : Fin 1024) :
    (iblk m c 5 t : FVec Ideal S512x1024 .bf16) (ix2 r f)
      = Z m c (ix2 (MergeRef.flat (bat t) (pos t r)) ⟨7168 + (1024 + f.val), by omega⟩) := by
  have := lt t
  blk_ext [iblk, V, idx t]
theorem weight_a (c : Dev nD) (t : Fin cfg0.N) (d : Fin 1536) (f : Fin 2048) :
    (iblk m c 7 t : FVec Ideal S1536x2048 .bf16) (ix2 d f) = WA m c (ix2 d f) := by
  blk_point [iblk, idx t]
theorem weight_f (c : Dev nD) (t : Fin cfg0.N) (d : Fin 512) (f : Fin 2048) :
    (iblk m c 8 t : FVec Ideal S512x2048 .bf16) (ix2 d f) = WF m c (ix2 d f) := by
  blk_point [iblk, idx t]
theorem weight_o (c : Dev nD) (t : Fin cfg0.N) (d : Fin 2048) (f : Fin 2048) :
    (iblk m c 9 t : FVec Ideal S2048x2048 .bf16) (ix2 d f) = WO m c (ix2 d f) := by
  blk_point [iblk, idx t]
theorem gain (c : Dev nD) (t : Fin cfg0.N) (d : Fin 2048) :
    (iblk m c 10 t : FVec Ideal S1x2048 .f32) (ix2 0 d) = G m c (ix1 d) := by
  blk_point [iblk, idx t]

/-- The halves of the weights that the kernel loads. -/
theorem left_a (y : FVec Ideal S1536x2048 .bf16) (d : Fin 1536) (f : Fin 1024) :
    (View.ld (Val := Elt Ideal) (e' := .bf16) y r0_3 : FVec Ideal S1536x1024 .bf16) (ix2 d f) = y (ix2 d ⟨f.val, by omega⟩) := by
  exact congrArg y (by blk_ext [] <;> first | (simp [r0_3]; done) | (simp [r0_3]; omega))
theorem right_a (y : FVec Ideal S1536x2048 .bf16) (d : Fin 1536) (f : Fin 1024) :
    (View.ld (Val := Elt Ideal) (e' := .bf16) y r0_7 : FVec Ideal S1536x1024 .bf16) (ix2 d f) = y (ix2 d ⟨1024 + f.val, by omega⟩) := by
  exact congrArg y (by blk_ext [] <;> first | (simp [r0_7]; done) | (simp [r0_7]; omega))
theorem left_f (y : FVec Ideal S512x2048 .bf16) (d : Fin 512) (f : Fin 1024) :
    (View.ld (Val := Elt Ideal) (e' := .bf16) y r0_4 : FVec Ideal S512x1024 .bf16) (ix2 d f) = y (ix2 d ⟨f.val, by omega⟩) := by
  exact congrArg y (by blk_ext [] <;> first | (simp [r0_4]; done) | (simp [r0_4]; omega))
theorem right_f (y : FVec Ideal S512x2048 .bf16) (d : Fin 512) (f : Fin 1024) :
    (View.ld (Val := Elt Ideal) (e' := .bf16) y r0_8 : FVec Ideal S512x1024 .bf16) (ix2 d f) = y (ix2 d ⟨1024 + f.val, by omega⟩) := by
  exact congrArg y (by blk_ext [] <;> first | (simp [r0_8]; done) | (simp [r0_8]; omega))
theorem top_o (y : FVec Ideal S2048x2048 .bf16) (f : Fin 1024) (e : Fin 2048) :
    (View.ld (Val := Elt Ideal) (e' := .bf16) y r0_6 : FVec Ideal S1024x2048 .bf16) (ix2 f e) = y (ix2 ⟨f.val, by omega⟩ e) := by
  exact congrArg y (by blk_ext [] <;> first | (simp [r0_6]; done) | (simp [r0_6]; omega))
theorem low_o (y : FVec Ideal S2048x2048 .bf16) (f : Fin 1024) (e : Fin 2048) :
    (View.ld (Val := Elt Ideal) (e' := .bf16) y r0_9 : FVec Ideal S1024x2048 .bf16) (ix2 f e) = y (ix2 ⟨1024 + f.val, by omega⟩ e) := by
  exact congrArg y (by blk_ext [] <;> first | (simp [r0_9]; done) | (simp [r0_9]; omega))

/-- The sum a grid point stores, from its blocks. -/
abbrev acc (c : Dev nD) (t : Fin cfg0.N) : FVec Ideal S512x2048 .f32 :=
  k0_pay1 (F := Ideal) (k0_pay5 (iblk m c 0 t) (iblk m c 1 t) (iblk m c 6 t) (View.ld (iblk m c 7 t) r0_3)
      (View.ld (iblk m c 8 t) r0_4) (iblk m c 2 t) (iblk m c 4 t) (View.ld (iblk m c 9 t) r0_6))
    (k0_pay6 (iblk m c 0 t) (View.ld (iblk m c 7 t) r0_7)) (k0_pay7 (iblk m c 1 t) (View.ld (iblk m c 8 t) r0_8))
    (k0_pay8 (iblk m c 3 t)) (iblk m c 5 t) (View.ld (iblk m c 9 t) r0_9)

/-- It is the reference's sum at the block's rows. -/
theorem acc_at (c : Dev nD) (t : Fin cfg0.N) (r : Fin 512) (e : Fin 2048) :
    acc m c t (ix2 r e)
      = MergeRef.total (O m c) (M m c) (Z m c) (X m c) (WA m c) (WF m c) (WO m c) (bat t) (pos t r) e := by
  rw [acc, both_at, MergeRef.total, resid m c t]
  refine congrArg (X m c (ix3 (bat t) (pos t r) e) + ·) ?_
  refine Eq.trans ?_ (Fin.sum_univ_add (a := 1024) (b := 1024) (fun f : Fin (1024 + 1024) =>
    MergeRef.col (O m c) (M m c) (Z m c) (WA m c) (WF m c) (bat t) (pos t r) f * WO m c (ix2 f e))).symm
  refine congrArg₂ (· + ·) (Finset.sum_congr rfl fun f _ => ?_) (Finset.sum_congr rfl fun f _ => ?_)
  · exact mixed_congr (rows m c t r) (fun d => (left_a _ d f).trans (weight_a m c t d _)) (rows' m c t r)
      (fun d => (left_f _ d f).trans (weight_f m c t d _)) (gate₂ m c t r f) (gate₄ m c t r f)
      ((top_o _ f e).trans (weight_o m c t _ e))
  · exact mixed_congr (rows m c t r) (fun d => (right_a _ d f).trans (weight_a m c t d _)) (rows' m c t r)
      (fun d => (right_f _ d f).trans (weight_f m c t d _)) (gate₃ m c t r f) (gate₅ m c t r f)
      ((low_o _ f e).trans (weight_o m c t _ e))

/-- The reference's results over the kernel's arguments. -/
abbrev REF (c : Dev nD) : FVec Ideal S16384x2048 .f32 :=
  Cert.MergeReferenceIdeal.Read.val_main_v13 (F := Ideal) (O m c) (M m c) (Z m c) (X m c) (WA m c) (WF m c) (WO m c)
abbrev REF' (c : Dev nD) : FVec Ideal S16384x2048 .bf16 :=
  Cert.MergeReferenceIdeal.Read.val_main_v28 (F := Ideal) (O m c) (M m c) (Z m c) (X m c) (WA m c) (WF m c) (WO m c) (G m c)

/-- What a grid point stores as the sum is the reference's where its block lies. -/
theorem point (c : Dev nD) (t : Fin cfg0.N) (r : Fin 512) (e : Fin 2048) :
    acc m c t (ix2 r e) = REF m c (ix2 (MergeRef.flat (bat t) (pos t r)) e) :=
  (acc_at m c t r e).trans (MergeRef.sum_at _ _ _ _ _ _ _ _ _ e).symm

/-- What a grid point stores as the norm is the reference's where its block lies. -/
theorem point' (c : Dev nD) (t : Fin cfg0.N) (r : Fin 512) (e : Fin 2048) :
    normed (fun j => acc m c t (ix2 r j)) (fun j => (iblk m c 10 t : FVec Ideal S1x2048 .f32) (ix2 0 j)) e
      = REF' m c (ix2 (MergeRef.flat (bat t) (pos t r)) e) := by
  rw [REF', MergeRef.norm_at]
  have a : (fun j => acc m c t (ix2 r j))
      = MergeRef.total (O m c) (M m c) (Z m c) (X m c) (WA m c) (WF m c) (WO m c) (bat t) (pos t r) :=
    funext fun j => acc_at m c t r j
  have g : (fun j => (iblk m c 10 t : FVec Ideal S1x2048 .f32) (ix2 0 j)) = fun j => G m c (ix1 j) := funext fun j => gain m c t j
  rw [a, g]

/-- THE FIRST RESULT ARRAY after the run, the sum, is the reference's. -/
theorem final (c : Dev nD) : (dats m 0 c).arrAt 11 (cfgs 0).N = REF m c := by
  refine (dats m 0 c).arrAt_eq_of_covers 11 _ (by decide +kernel) fun t hf y => ?_
  blk_simp
  rw [after0_11]; unfold_out out0_11; frame_out
  have e₀ : y = ix2 (y 0) (y 1) := by blk_ext []
  rw [e₀]
  refine (point m c t (y 0) (y 1)).trans (congrArg (REF m c) ?_)
  have := lt t
  blk_ext [idx t]

/-- THE SECOND RESULT ARRAY after the run, the norm, is the reference's. -/
theorem final' (c : Dev nD) : (dats m 0 c).arrAt 12 (cfgs 0).N = REF' m c := by
  refine (dats m 0 c).arrAt_eq_of_covers 12 _ (by decide +kernel) fun t hf y => ?_
  blk_simp
  rw [after0_12]; unfold_out out0_12; frame_out
  have e₀ : y = ix2 (y 0) (y 1) := by blk_ext []
  rw [e₀]
  refine (MergeKernel.norm_at _ _ _ _ _ _ _ (y 0) (y 1)).trans ?_
  refine (point' m c t (y 0) (y 1)).trans (congrArg (REF' m c) ?_)
  have := lt t
  blk_ext [idx t]

end Cert.MergeValue

end
-- ==== Proof.MixRun.lean ====
/- The run of the attention and the merge as one program, its two result arrays named. -/
module

public import proofs.«01_k».proof.Proof.Gen.MixIdeal.Frame
public import proofs.«01_k».proof.Defs

@[expose] public section

set_option maxRecDepth 16384

noncomputable section

namespace Cert.MixRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixIdeal Cert.MixIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the two result arrays at what the merge's grid points left in them and the arguments as they were. -/
theorem run : θ_run defs (onTc (τ := τ) (main (F := Ideal))) ⟨m, fun _ => 0, ρ⟩ (fun r => ∀ c : Dev nD,
      r.2.mem ((c.tc : Thread nD τ).loc main_v15_0) = (dat1 (V3 m ρ) c).arrAt 11 cfg1.N
      ∧ r.2.mem ((c.tc : Thread nD τ).loc main_v15_1) = (dat1 (V3 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v15_0 (by decide))).trans (W4_arr m ρ c 11),
       (h c _ (mem_uc main_v15_1 (by decide))).trans (W4_arr m ρ c 12),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.MixRun

end
-- ==== Proof.MixValue.lean ====
/- The attention and the merge as one program: each call's blocks are those of the call alone, started from what the program hands it. -/
module

public import proofs.«01_k».proof.Proof.MixRun
public import proofs.«01_k».proof.Proof.Attn
public import proofs.«01_k».proof.Proof.MergeValue
public import proofs.«01_k».proof.Proof.Gen.MixReferenceIdeal.Read
public import proofs.«01_k».proof.Proof.Gen.Pre_mix_finite

@[expose] public section

set_option maxRecDepth 16384

noncomputable section

namespace Cert.MixValue

open Idealize.ShloMosaic Idealize.ShloMosaic.TcCoe Idealize.SL.Sem
open Idealize.ShloMosaic.Pipeline (Dat)
open Cert.MixIdeal Cert.MixIdeal.Gen

/-- An element of each type that a buffer can hold. -/
theorem filled (e : EltTy) : Nonempty (Elt Ideal e) := by
  cases e <;> first | exact ⟨(0 : EReal)⟩ | exact ⟨0#_⟩ | infer_instance

/-- Changing one buffer leaves another as it was. -/
theorem skip {nD : Nat} {τ : Topo} {sig : RefSig} (m : (ℓ : Loc nD τ sig) → Buf (Elt Ideal) ℓ) (c : Dev nD) {a b : Ref sig .tc}
    (h : a ≠ b) (v : Buf (Elt Ideal) ((c : Thread nD τ).loc b)) :
    Function.update m ((c : Thread nD τ).loc b) v ((c : Thread nD τ).loc a) = m ((c : Thread nD τ).loc a) :=
  Function.update_of_ne (fun e => h (Proc.devRef_injective .tc (congrArg Prod.snd e))) _ _

/-- A memory of the merge alone with given arguments. -/
theorem merge_mem (c : Dev Cert.MergeIdeal.nD) (o : FVec Ideal S4x4096x1536 .bf16) (fm : FVec Ideal S4x4096x512 .bf16)
    (z : FVec Ideal S16384x9216 .bf16) (x : FVec Ideal S4x4096x2048 .f32) (wa : FVec Ideal S1536x2048 .f32)
    (wf : FVec Ideal S512x2048 .f32) (wo : FVec Ideal S2048x2048 .f32) (g : FVec Ideal S2048 .f32) :
    ∃ m : (ℓ : Loc Cert.MergeIdeal.nD Cert.MergeIdeal.τ Cert.MergeIdeal.sig) → Buf (Elt Ideal) ℓ,
      MergeValue.O m c = o ∧ MergeValue.M m c = fm ∧ MergeValue.Z m c = z ∧ MergeValue.X m c = x
        ∧ MergeValue.WA m c = wa ∧ MergeValue.WF m c = wf ∧ MergeValue.WO m c = wo ∧ MergeValue.G m c = g := by
  classical
  obtain ⟨m₀⟩ : Nonempty ((ℓ : Loc Cert.MergeIdeal.nD Cert.MergeIdeal.τ Cert.MergeIdeal.sig) → Buf (Elt Ideal) ℓ) :=
    ⟨fun ℓ _ => Classical.choice (filled _)⟩
  refine ⟨Function.update (Function.update (Function.update (Function.update (Function.update (Function.update (Function.update (Function.update m₀
      ((c : Thread Cert.MergeIdeal.nD Cert.MergeIdeal.τ).loc Cert.MergeIdeal.main_arg0) o)
      ((c : Thread Cert.MergeIdeal.nD Cert.MergeIdeal.τ).loc Cert.MergeIdeal.main_arg1) fm)
      ((c : Thread Cert.MergeIdeal.nD Cert.MergeIdeal.τ).loc Cert.MergeIdeal.main_arg2) z)
      ((c : Thread Cert.MergeIdeal.nD Cert.MergeIdeal.τ).loc Cert.MergeIdeal.main_arg3) x)
      ((c : Thread Cert.MergeIdeal.nD Cert.MergeIdeal.τ).loc Cert.MergeIdeal.main_arg4) wa)
      ((c : Thread Cert.MergeIdeal.nD Cert.MergeIdeal.τ).loc Cert.MergeIdeal.main_arg5) wf)
      ((c : Thread Cert.MergeIdeal.nD Cert.MergeIdeal.τ).loc Cert.MergeIdeal.main_arg6) wo)
      ((c : Thread Cert.MergeIdeal.nD Cert.MergeIdeal.τ).loc Cert.MergeIdeal.main_arg7) g,
      ?_, ?_, ?_, ?_, ?_, ?_, ?_, ?_⟩
  all_goals
    repeat refine (skip _ c (by decide) _).trans ?_
    exact Function.update_self _ _ _

/-- A memory of the attention alone with given arguments. -/
theorem attn_mem (c : Dev Cert.KernelIdeal.nD) (z : FVec Ideal S4x4096x9216 .bf16) (a₁ a₂ a₃ a₄ : FVec Ideal S128 .f32)
    (g : FVec Ideal S256 .f32) :
    ∃ m : (ℓ : Loc Cert.KernelIdeal.nD Cert.KernelIdeal.τ Cert.KernelIdeal.sig) → Buf (Elt Ideal) ℓ,
      Attn.Z m c = z ∧ Attn.A₁ m c = a₁ ∧ Attn.A₂ m c = a₂ ∧ Attn.A₃ m c = a₃ ∧ Attn.A₄ m c = a₄ ∧ Attn.G m c = g := by
  classical
  obtain ⟨m₀⟩ : Nonempty ((ℓ : Loc Cert.KernelIdeal.nD Cert.KernelIdeal.τ Cert.KernelIdeal.sig) → Buf (Elt Ideal) ℓ) :=
    ⟨fun ℓ _ => Classical.choice (filled _)⟩
  refine ⟨Function.update (Function.update (Function.update (Function.update (Function.update (Function.update m₀
      ((c : Thread Cert.KernelIdeal.nD Cert.KernelIdeal.τ).loc Cert.KernelIdeal.main_arg0) z)
      ((c : Thread Cert.KernelIdeal.nD Cert.KernelIdeal.τ).loc Cert.KernelIdeal.main_arg1) a₁)
      ((c : Thread Cert.KernelIdeal.nD Cert.KernelIdeal.τ).loc Cert.KernelIdeal.main_arg2) a₂)
      ((c : Thread Cert.KernelIdeal.nD Cert.KernelIdeal.τ).loc Cert.KernelIdeal.main_arg3) a₃)
      ((c : Thread Cert.KernelIdeal.nD Cert.KernelIdeal.τ).loc Cert.KernelIdeal.main_arg4) a₄)
      ((c : Thread Cert.KernelIdeal.nD Cert.KernelIdeal.τ).loc Cert.KernelIdeal.main_arg5) g,
      ?_, ?_, ?_, ?_, ?_, ?_⟩
  all_goals
    repeat refine (skip _ c (by decide) _).trans ?_
    exact Function.update_self _ _ _

variable (z : FVec Ideal S16384x9216 .bf16) (a₁ a₂ a₃ a₄ : FVec Ideal S128 .f32) (g : FVec Ideal S256 .f32)
    (fm : FVec Ideal S4x4096x512 .bf16) (x : FVec Ideal S4x4096x2048 .f32) (wa : FVec Ideal S1536x2048 .f32)
    (wf : FVec Ideal S512x2048 .f32) (wo : FVec Ideal S2048x2048 .f32) (gf : FVec Ideal S2048 .f32)

/-- The attention's reference over the projected matrix. -/
abbrev mid : FVec Ideal S4x4096x1536 .bf16 :=
  Cert.ReferenceIdeal.Read.val_main_v52 (F := Ideal)
    (shapeCast S4x4096x9216 z shapeCasts_S16384x9216_S4x4096x9216) a₁ a₂ a₃ a₄ g

/-- The joined reference is the two references one after another: the rounding of the attention's result between them changes nothing here. -/
theorem sum_eq : Cert.MixReferenceIdeal.Read.val_main_v65 (F := Ideal) z a₁ a₂ a₃ a₄ g fm x wa wf wo
    = Cert.MergeReferenceIdeal.Read.val_main_v13 (F := Ideal) (mid z a₁ a₂ a₃ a₄ g) fm z x wa wf wo := rfl

/-- The same of the second result. -/
theorem norm_eq : Cert.MixReferenceIdeal.Read.val_main_v80 (F := Ideal) z a₁ a₂ a₃ a₄ g fm x wa wf wo gf
    = Cert.MergeReferenceIdeal.Read.val_main_v28 (F := Ideal) (mid z a₁ a₂ a₃ a₄ g) fm z x wa wf wo gf := rfl

variable (m : (ℓ : Loc nD τ sig) → Buf (Elt Ideal) ℓ) (ρ : Dev nD → PrngReg)

section First

variable (m' : (ℓ : Loc Cert.KernelIdeal.nD Cert.KernelIdeal.τ Cert.KernelIdeal.sig) → Buf (Elt Ideal) ℓ) (c : Dev nD)
    (hz : Attn.Z m' c = shapeCast S4x4096x9216 (m ((c : Thread nD τ).loc main_arg0)) shapeCasts_S16384x9216_S4x4096x9216)
    (h₁ : Attn.A₁ m' c = m ((c : Thread nD τ).loc main_arg1)) (h₂ : Attn.A₂ m' c = m ((c : Thread nD τ).loc main_arg2))
    (h₃ : Attn.A₃ m' c = m ((c : Thread nD τ).loc main_arg3)) (h₄ : Attn.A₄ m' c = m ((c : Thread nD τ).loc main_arg4))
    (hg : Attn.G m' c = m ((c : Thread nD τ).loc main_arg5))

include h₁ h₂ h₃ h₄ in
/-- The block of mixing vectors in the joined program is that of the attention alone. -/
theorem first_0 (t : Fin cfg0.N) : iblk0 (V1 m ρ) c 0 t = Cert.KernelIdeal.Gen.iblk m' c 0 t := by
  have e : V1 m ρ c main_v5 = Attn.stack (Attn.A₁ m' c) (Attn.A₂ m' c) (Attn.A₃ m' c) (Attn.A₄ m' c) := by
    rw [h₁, h₂, h₃, h₄]
    unfold V1 W1; after_results; try rfl
  have e' : Cert.KernelIdeal.Gen.V m' c Cert.KernelIdeal.main_v4
      = Attn.stack (Attn.A₁ m' c) (Attn.A₂ m' c) (Attn.A₃ m' c) (Attn.A₄ m' c) := by
    unfold Cert.KernelIdeal.Gen.V; after_results; try rfl
  exact congrArg (fun a => ((cfg0.win 0).blk t).view.read (Elt Ideal) a) (e.trans e'.symm)

include hg in
/-- The block of the gain in the joined program is that of the attention alone. -/
theorem first_1 (t : Fin cfg0.N) : iblk0 (V1 m ρ) c 1 t = Cert.KernelIdeal.Gen.iblk m' c 1 t := by
  have e : V1 m ρ c main_v6 = shapeCast S1x256 (Attn.G m' c) shapeCasts_S256_S1x256 := by
    rw [hg]
    unfold V1 W1; after_results; try rfl
  have e' : Cert.KernelIdeal.Gen.V m' c Cert.KernelIdeal.main_v5 = shapeCast S1x256 (Attn.G m' c) shapeCasts_S256_S1x256 := by
    unfold Cert.KernelIdeal.Gen.V; after_results; try rfl
  exact congrArg (fun a => ((cfg0.win 1).blk t).view.read (Elt Ideal) a) (e.trans e'.symm)

include hz in
/-- The projected rows that the joined program hands to the attention are the attention's argument. -/
theorem first_z : V1 m ρ c main_v0 = Cert.KernelIdeal.Gen.V m' c Cert.KernelIdeal.main_arg0 := by
  have e : V1 m ρ c main_v0 = Attn.Z m' c := by
    rw [hz]
    unfold V1 W1; after_results; try rfl
  have e' : Cert.KernelIdeal.Gen.V m' c Cert.KernelIdeal.main_arg0 = Attn.Z m' c := by
    unfold Cert.KernelIdeal.Gen.V; after_results; try rfl
  exact e.trans e'.symm

include hz in
/-- The block of queries in the joined program is that of the attention alone. -/
theorem first_2 (t : Fin cfg0.N) : iblk0 (V1 m ρ) c 2 t = Cert.KernelIdeal.Gen.iblk m' c 2 t :=
  congrArg (fun a => ((cfg0.win 2).blk t).view.read (Elt Ideal) a) (first_z m ρ m' c hz)
include hz in
/-- The block of keys in the joined program is that of the attention alone. -/
theorem first_3 (t : Fin cfg0.N) : iblk0 (V1 m ρ) c 3 t = Cert.KernelIdeal.Gen.iblk m' c 3 t :=
  congrArg (fun a => ((cfg0.win 3).blk t).view.read (Elt Ideal) a) (first_z m ρ m' c hz)
include hz in
/-- The block of values in the joined program is that of the attention alone. -/
theorem first_4 (t : Fin cfg0.N) : iblk0 (V1 m ρ) c 4 t = Cert.KernelIdeal.Gen.iblk m' c 4 t :=
  congrArg (fun a => ((cfg0.win 4).blk t).view.read (Elt Ideal) a) (first_z m ρ m' c hz)

/-- Which block of its array the attention's result window holds at a grid point. -/
theorem place : ∀ t : Fin cfg0.N, win0_5.index t = ![t.val / 96, t.val % 16, t.val / 16 % 6] :=
  (by decide +kernel : ∀ t : Fin grid0.N, _)

include hz h₁ h₂ h₃ h₄ hg in
/-- The attention's result array in the joined program is the attention's reference. -/
theorem first (h : Pre_KernelIdeal_finite m') : (dat0 (V1 m ρ) c).arrAt 5 cfg0.N = Attn.REF m' c := by
  refine (dat0 (V1 m ρ) c).arrAt_eq_of_covers 5 _ (by decide +kernel) fun t _ y => ?_
  blk_simp
  rw [after0_5, first_0 m ρ m' c h₁ h₂ h₃ h₄ t, first_1 m ρ m' c hg t, first_2 m ρ m' c hz t, first_3 m ρ m' c hz t,
    first_4 m ρ m' c hz t]
  frame_out
  have e₀ : y = ix3 0 (y 1) (y 2) := by blk_ext []
  rw [e₀]
  refine (Attn.point m' h c t (y 1) (y 2)).trans (congrArg (Attn.REF m' c) ?_)
  blk_ext [place t]

end First

section Second

variable (m' : (ℓ : Loc Cert.MergeIdeal.nD Cert.MergeIdeal.τ Cert.MergeIdeal.sig) → Buf (Elt Ideal) ℓ) (c : Dev nD)
    (ho : MergeValue.O m' c = (dat0 (V1 m ρ) c).arrAt 5 cfg0.N)
    (hm : MergeValue.M m' c = m ((c : Thread nD τ).loc main_arg6)) (hz : MergeValue.Z m' c = m ((c : Thread nD τ).loc main_arg0))
    (hx : MergeValue.X m' c = m ((c : Thread nD τ).loc main_arg7)) (ha : MergeValue.WA m' c = m ((c : Thread nD τ).loc main_arg8))
    (hf : MergeValue.WF m' c = m ((c : Thread nD τ).loc main_arg9)) (hw : MergeValue.WO m' c = m ((c : Thread nD τ).loc main_arg10))
    (hg : MergeValue.G m' c = m ((c : Thread nD τ).loc main_arg11))

include ho in
/-- The block of the attention's rows in the joined program is that of the merge alone. -/
theorem second_0 (t : Fin cfg1.N) : iblk1 (V3 m ρ) c 0 t = Cert.MergeIdeal.Gen.iblk m' c 0 t := by
  have e : V3 m ρ c main_v8 = shapeCast S16384x1536 (MergeValue.O m' c) shapeCasts_S4x4096x1536_S16384x1536 := by
    rw [ho, ← W2_arr m ρ c 5]
    unfold V3 W3; after_results; try rfl
  have e' : Cert.MergeIdeal.Gen.V m' c Cert.MergeIdeal.main_v0
      = shapeCast S16384x1536 (MergeValue.O m' c) shapeCasts_S4x4096x1536_S16384x1536 := by
    unfold Cert.MergeIdeal.Gen.V; after_results; try rfl
  exact congrArg (fun a => ((cfg1.win 0).blk t).view.read (Elt Ideal) a) (e.trans e'.symm)

include hm in
/-- The block of the Fourier branch's rows in the joined program is that of the merge alone. -/
theorem second_1 (t : Fin cfg1.N) : iblk1 (V3 m ρ) c 1 t = Cert.MergeIdeal.Gen.iblk m' c 1 t := by
  have e : V3 m ρ c main_v9 = shapeCast S16384x512 (MergeValue.M m' c) shapeCasts_S4x4096x512_S16384x512 := by
    rw [hm, ← W2_args m ρ c main_arg6 (by decide)]
    unfold V3 W3; after_results; try rfl
  have e' : Cert.MergeIdeal.Gen.V m' c Cert.MergeIdeal.main_v1 = shapeCast S16384x512 (MergeValue.M m' c) shapeCasts_S4x4096x512_S16384x512 := by
    unfold Cert.MergeIdeal.Gen.V; after_results; try rfl
  exact congrArg (fun a => ((cfg1.win 1).blk t).view.read (Elt Ideal) a) (e.trans e'.symm)
include hz in
/-- The block of the attention gate's first half in the joined program is that of the merge alone. -/
theorem second_2 (t : Fin cfg1.N) : iblk1 (V3 m ρ) c 2 t = Cert.MergeIdeal.Gen.iblk m' c 2 t := by
  have e : V3 m ρ c main_arg0 = MergeValue.Z m' c := by
    rw [hz, ← W2_args m ρ c main_arg0 (by decide)]
    unfold V3 W3; after_results; try rfl
  have e' : Cert.MergeIdeal.Gen.V m' c Cert.MergeIdeal.main_arg2 = MergeValue.Z m' c := by
    unfold Cert.MergeIdeal.Gen.V; after_results; try rfl
  exact congrArg (fun a => ((cfg1.win 2).blk t).view.read (Elt Ideal) a) (e.trans e'.symm)
include hz in
/-- The block of the attention gate's second half in the joined program is that of the merge alone. -/
theorem second_3 (t : Fin cfg1.N) : iblk1 (V3 m ρ) c 3 t = Cert.MergeIdeal.Gen.iblk m' c 3 t := by
  have e : V3 m ρ c main_arg0 = MergeValue.Z m' c := by
    rw [hz, ← W2_args m ρ c main_arg0 (by decide)]
    unfold V3 W3; after_results; try rfl
  have e' : Cert.MergeIdeal.Gen.V m' c Cert.MergeIdeal.main_arg2 = MergeValue.Z m' c := by
    unfold Cert.MergeIdeal.Gen.V; after_results; try rfl
  exact congrArg (fun a => ((cfg1.win 3).blk t).view.read (Elt Ideal) a) (e.trans e'.symm)
include hz in
/-- The block of the Fourier gate's first half in the joined program is that of the merge alone. -/
theorem second_4 (t : Fin cfg1.N) : iblk1 (V3 m ρ) c 4 t = Cert.MergeIdeal.Gen.iblk m' c 4 t := by
  have e : V3 m ρ c main_arg0 = MergeValue.Z m' c := by
    rw [hz, ← W2_args m ρ c main_arg0 (by decide)]
    unfold V3 W3; after_results; try rfl
  have e' : Cert.MergeIdeal.Gen.V m' c Cert.MergeIdeal.main_arg2 = MergeValue.Z m' c := by
    unfold Cert.MergeIdeal.Gen.V; after_results; try rfl
  exact congrArg (fun a => ((cfg1.win 4).blk t).view.read (Elt Ideal) a) (e.trans e'.symm)
include hz in
/-- The block of the Fourier gate's second half in the joined program is that of the merge alone. -/
theorem second_5 (t : Fin cfg1.N) : iblk1 (V3 m ρ) c 5 t = Cert.MergeIdeal.Gen.iblk m' c 5 t := by
  have e : V3 m ρ c main_arg0 = MergeValue.Z m' c := by
    rw [hz, ← W2_args m ρ c main_arg0 (by decide)]
    unfold V3 W3; after_results; try rfl
  have e' : Cert.MergeIdeal.Gen.V m' c Cert.MergeIdeal.main_arg2 = MergeValue.Z m' c := by
    unfold Cert.MergeIdeal.Gen.V; after_results; try rfl
  exact congrArg (fun a => ((cfg1.win 5).blk t).view.read (Elt Ideal) a) (e.trans e'.symm)
include hx in
/-- The block of the layer's input in the joined program is that of the merge alone. -/
theorem second_6 (t : Fin cfg1.N) : iblk1 (V3 m ρ) c 6 t = Cert.MergeIdeal.Gen.iblk m' c 6 t := by
  have e : V3 m ρ c main_v10 = shapeCast S16384x2048 (MergeValue.X m' c) shapeCasts_S4x4096x2048_S16384x2048 := by
    rw [hx, ← W2_args m ρ c main_arg7 (by decide)]
    unfold V3 W3; after_results; try rfl
  have e' : Cert.MergeIdeal.Gen.V m' c Cert.MergeIdeal.main_v2 = shapeCast S16384x2048 (MergeValue.X m' c) shapeCasts_S4x4096x2048_S16384x2048 := by
    unfold Cert.MergeIdeal.Gen.V; after_results; try rfl
  exact congrArg (fun a => ((cfg1.win 6).blk t).view.read (Elt Ideal) a) (e.trans e'.symm)
include ha in
/-- The block of the attention branch's weight in the joined program is that of the merge alone. -/
theorem second_7 (t : Fin cfg1.N) : iblk1 (V3 m ρ) c 7 t = Cert.MergeIdeal.Gen.iblk m' c 7 t := by
  have e : V3 m ρ c main_v11 = (truncf .bf16 (MergeValue.WA m' c) bitsLt_bf16_f32 : FVec Ideal S1536x2048 .bf16) := by
    rw [ha, ← W2_args m ρ c main_arg8 (by decide)]
    unfold V3 W3; after_results; try rfl
  have e' : Cert.MergeIdeal.Gen.V m' c Cert.MergeIdeal.main_v3 = (truncf .bf16 (MergeValue.WA m' c) bitsLt_bf16_f32 : FVec Ideal S1536x2048 .bf16) := by
    unfold Cert.MergeIdeal.Gen.V; after_results; try rfl
  exact congrArg (fun a => ((cfg1.win 7).blk t).view.read (Elt Ideal) a) (e.trans e'.symm)
include hf in
/-- The block of the Fourier branch's weight in the joined program is that of the merge alone. -/
theorem second_8 (t : Fin cfg1.N) : iblk1 (V3 m ρ) c 8 t = Cert.MergeIdeal.Gen.iblk m' c 8 t := by
  have e : V3 m ρ c main_v12 = (truncf .bf16 (MergeValue.WF m' c) bitsLt_bf16_f32 : FVec Ideal S512x2048 .bf16) := by
    rw [hf, ← W2_args m ρ c main_arg9 (by decide)]
    unfold V3 W3; after_results; try rfl
  have e' : Cert.MergeIdeal.Gen.V m' c Cert.MergeIdeal.main_v4 = (truncf .bf16 (MergeValue.WF m' c) bitsLt_bf16_f32 : FVec Ideal S512x2048 .bf16) := by
    unfold Cert.MergeIdeal.Gen.V; after_results; try rfl
  exact congrArg (fun a => ((cfg1.win 8).blk t).view.read (Elt Ideal) a) (e.trans e'.symm)
include hw in
/-- The block of the output weight in the joined program is that of the merge alone. -/
theorem second_9 (t : Fin cfg1.N) : iblk1 (V3 m ρ) c 9 t = Cert.MergeIdeal.Gen.iblk m' c 9 t := by
  have e : V3 m ρ c main_v13 = (truncf .bf16 (MergeValue.WO m' c) bitsLt_bf16_f32 : FVec Ideal S2048x2048 .bf16) := by
    rw [hw, ← W2_args m ρ c main_arg10 (by decide)]
    unfold V3 W3; after_results; try rfl
  have e' : Cert.MergeIdeal.Gen.V m' c Cert.MergeIdeal.main_v5 = (truncf .bf16 (MergeValue.WO m' c) bitsLt_bf16_f32 : FVec Ideal S2048x2048 .bf16) := by
    unfold Cert.MergeIdeal.Gen.V; after_results; try rfl
  exact congrArg (fun a => ((cfg1.win 9).blk t).view.read (Elt Ideal) a) (e.trans e'.symm)
include hg in
/-- The block of the gain in the joined program is that of the merge alone. -/
theorem second_10 (t : Fin cfg1.N) : iblk1 (V3 m ρ) c 10 t = Cert.MergeIdeal.Gen.iblk m' c 10 t := by
  have e : V3 m ρ c main_v14 = shapeCast S1x2048 (MergeValue.G m' c) shapeCasts_S2048_S1x2048 := by
    rw [hg, ← W2_args m ρ c main_arg11 (by decide)]
    unfold V3 W3; after_results; try rfl
  have e' : Cert.MergeIdeal.Gen.V m' c Cert.MergeIdeal.main_v6 = shapeCast S1x2048 (MergeValue.G m' c) shapeCasts_S2048_S1x2048 := by
    unfold Cert.MergeIdeal.Gen.V; after_results; try rfl
  exact congrArg (fun a => ((cfg1.win 10).blk t).view.read (Elt Ideal) a) (e.trans e'.symm)

/-- Which block of its array the window of the sum holds at a grid point. -/
theorem place_11 : ∀ t : Fin cfg1.N, win1_11.index t = ![t.val, 0] := (by decide +kernel : ∀ t : Fin grid1.N, _)

include ho hm hz hx ha hf hw hg in
/-- The sum in the joined program is that of the merge's reference. -/
theorem second : (dat1 (V3 m ρ) c).arrAt 11 cfg1.N = MergeValue.REF m' c := by
  refine (dat1 (V3 m ρ) c).arrAt_eq_of_covers 11 _ (by decide +kernel) fun t _ y => ?_
  blk_simp
  rw [after1_11, second_0 m ρ m' c ho t, second_1 m ρ m' c hm t, second_2 m ρ m' c hz t, second_3 m ρ m' c hz t, second_4 m ρ m' c hz t, second_5 m ρ m' c hz t, second_6 m ρ m' c hx t, second_7 m ρ m' c ha t, second_8 m ρ m' c hf t, second_9 m ρ m' c hw t, second_10 m ρ m' c hg t]
  unfold_out out1_11; frame_out
  have e₀ : y = ix2 (y 0) (y 1) := by blk_ext []
  rw [e₀]
  refine (MergeValue.point m' c t (y 0) (y 1)).trans (congrArg (MergeValue.REF m' c) ?_)
  have := MergeValue.lt t
  blk_ext [place_11 t]

/-- Which block of its array the window of the norm holds at a grid point. -/
theorem place_12 : ∀ t : Fin cfg1.N, win1_12.index t = ![t.val, 0] := (by decide +kernel : ∀ t : Fin grid1.N, _)

include ho hm hz hx ha hf hw hg in
/-- The norm in the joined program is that of the merge's reference. -/
theorem second' : (dat1 (V3 m ρ) c).arrAt 12 cfg1.N = MergeValue.REF' m' c := by
  refine (dat1 (V3 m ρ) c).arrAt_eq_of_covers 12 _ (by decide +kernel) fun t _ y => ?_
  blk_simp
  rw [after1_12, second_0 m ρ m' c ho t, second_1 m ρ m' c hm t, second_2 m ρ m' c hz t, second_3 m ρ m' c hz t, second_4 m ρ m' c hz t, second_5 m ρ m' c hz t, second_6 m ρ m' c hx t, second_7 m ρ m' c ha t, second_8 m ρ m' c hf t, second_9 m ρ m' c hw t, second_10 m ρ m' c hg t]
  unfold_out out1_12; frame_out
  have e₀ : y = ix2 (y 0) (y 1) := by blk_ext []
  rw [e₀]
  refine (MergeKernel.norm_at _ _ _ _ _ _ _ (y 0) (y 1)).trans ?_
  refine (MergeValue.point' m' c t (y 0) (y 1)).trans (congrArg (MergeValue.REF' m' c) ?_)
  have := MergeValue.lt t
  blk_ext [place_12 t]

end Second

/-- The projected matrix as three-dimensional rows holds the same elements. -/
theorem split_at (y : FVec Ideal S16384x9216 .bf16) (b : Fin 4) (s : Fin 4096) (d : Fin 9216) :
    shapeCast S4x4096x9216 y shapeCasts_S16384x9216_S4x4096x9216 (ix3 b s d) = y (ix2 ⟨b.val * 4096 + s.val, by omega⟩ d) := by
  pointwise

/-- The attention's precondition at an element. -/
theorem pre_at (y : FVec Ideal S4x4096x9216 .bf16) (a₁ a₂ a₃ a₄ : FVec Ideal S128 .f32) (g : FVec Ideal S256 .f32)
    (b : Fin 4) (s : Fin 4096) (d : Fin 3072) :
    Cert.Pre_finite.fn (F := Ideal) y a₁ a₂ a₃ a₄ g (ix3 b s d)
      = Ideal.cmp .olt (max (y (ix3 b s ⟨d.val, by omega⟩)) (-(y (ix3 b s ⟨d.val, by omega⟩)))) (Ideal.ofBits .bf16 0x7F80#16) := by
  pointwise [Cert.Pre_finite.fn]
  rfl

/-- The joined program's precondition at an element. -/
theorem mix_pre_at (y : FVec Ideal S16384x9216 .bf16) (n : Fin 16384) (d : Fin 3072) :
    Cert.Pre_mix_finite.fn (F := Ideal) y a₁ a₂ a₃ a₄ g fm x wa wf wo gf (ix2 n d)
      = Ideal.cmp .olt (max (y (ix2 n ⟨d.val, by omega⟩)) (-(y (ix2 n ⟨d.val, by omega⟩)))) (Ideal.ofBits .bf16 0x7F80#16) := by
  pointwise [Cert.Pre_mix_finite.fn]
  rfl

/-- Under the joined program's precondition the attention's holds. -/
theorem pre_of (h : Pre_MixIdeal_mix_finite m) (m' : (ℓ : Loc Cert.KernelIdeal.nD Cert.KernelIdeal.τ Cert.KernelIdeal.sig) → Buf (Elt Ideal) ℓ)
    (c : Dev nD) (hz : Attn.Z m' c = shapeCast S4x4096x9216 (m ((c : Thread nD τ).loc main_arg0)) shapeCasts_S16384x9216_S4x4096x9216) :
    Pre_KernelIdeal_finite m' := by
  intro c'
  obtain rfl : c' = c := Subsingleton.elim (α := Fin 1) c' c
  have k : ∀ (b : Fin 4) (s : Fin 4096) (d : Fin 3072), Cert.Pre_finite.fn (F := Ideal) (Attn.Z m' c') (Attn.A₁ m' c')
      (Attn.A₂ m' c') (Attn.A₃ m' c') (Attn.A₄ m' c') (Attn.G m' c') (ix3 b s d) = 1#1 := fun b s d => by
    refine (pre_at (Attn.Z m' c') _ _ _ _ _ b s d).trans ?_
    rw [hz, split_at]
    exact (mix_pre_at _ _ _ _ _ _ _ _ _ _ _ _ _ _).symm.trans (congrFun (h c') (ix2 ⟨b.val * 4096 + s.val, by omega⟩ d))
  funext i
  have e₀ : i = ix3 (i 0) (i 1) (i 2) := by blk_ext []
  rw [e₀]
  exact k (i 0) (i 1) (i 2)

/-- The joined reference's results over the program's arguments. -/
abbrev REF (c : Dev nD) : FVec Ideal S16384x2048 .f32 :=
  Cert.MixReferenceIdeal.Read.val_main_v65 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
abbrev REF' (c : Dev nD) : FVec Ideal S16384x2048 .bf16 :=
  Cert.MixReferenceIdeal.Read.val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- What the attention hands to the merge is the attention's reference over the program's arguments. -/
theorem middle (h : Pre_MixIdeal_mix_finite m) (c : Dev nD) : (dat0 (V1 m ρ) c).arrAt 5 cfg0.N
    = mid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain ⟨m', hz, h₁, h₂, h₃, h₄, hg⟩ := attn_mem c
    (shapeCast S4x4096x9216 (m ((c : Thread nD τ).loc main_arg0) : FVec Ideal S16384x9216 .bf16) shapeCasts_S16384x9216_S4x4096x9216)
    (m ((c : Thread nD τ).loc main_arg1)) (m ((c : Thread nD τ).loc main_arg2)) (m ((c : Thread nD τ).loc main_arg3))
    (m ((c : Thread nD τ).loc main_arg4)) (m ((c : Thread nD τ).loc main_arg5))
  refine (first m ρ m' c hz h₁ h₂ h₃ h₄ hg (pre_of m h m' c hz)).trans ?_
  rw [Attn.REF, hz, h₁, h₂, h₃, h₄, hg]

/-- THE TWO RESULT ARRAYS after the run are the joined reference's. -/
theorem final (h : Pre_MixIdeal_mix_finite m) (c : Dev nD) :
    (dat1 (V3 m ρ) c).arrAt 11 cfg1.N = REF m c ∧ (dat1 (V3 m ρ) c).arrAt 12 cfg1.N = REF' m c := by
  obtain ⟨m', ho, hm, hz, hx, ha, hf, hw, hg⟩ := merge_mem c ((dat0 (V1 m ρ) c).arrAt 5 cfg0.N)
    (m ((c : Thread nD τ).loc main_arg6)) (m ((c : Thread nD τ).loc main_arg0)) (m ((c : Thread nD τ).loc main_arg7))
    (m ((c : Thread nD τ).loc main_arg8)) (m ((c : Thread nD τ).loc main_arg9)) (m ((c : Thread nD τ).loc main_arg10))
    (m ((c : Thread nD τ).loc main_arg11))
  refine ⟨(second m ρ m' c ho hm hz hx ha hf hw hg).trans ?_, (second' m ρ m' c ho hm hz hx ha hf hw hg).trans ?_⟩
  · rw [MergeValue.REF, REF, sum_eq, ho, hm, hz, hx, ha, hf, hw, middle m ρ h c]
  · rw [MergeValue.REF', REF', norm_eq, ho, hm, hz, hx, ha, hf, hw, hg, middle m ρ h c]

end Cert.MixValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.KernelIdeal.Value
public import proofs.«01_k».proof.Proof.Gen.FfnIdeal.Value
public import proofs.«01_k».proof.Proof.Gen.ReferenceIdeal.Run
public import proofs.«01_k».proof.Proof.Gen.ReferenceIdeal.Read
public import proofs.«01_k».proof.Proof.Gen.FfnReferenceIdeal.Run
public import proofs.«01_k».proof.Proof.Gen.FfnReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Pre_mix_finite
public import proofs.«01_k».proof.Proof.Attn
public import proofs.«01_k».proof.Proof.FfnValue
public import proofs.«01_k».proof.Proof.InProjValue
public import proofs.«01_k».proof.Proof.MergeValue
public import Idealize.ShloMosaic.Lib.Claim
public import proofs.«01_k».proof.Proof.MixValue
public import Idealize.ShloMosaic.Adequacy
public import Idealize.ShloMosaic.Init

@[expose] public section

set_option maxRecDepth 16384

noncomputable section

namespace Cert.Proof

open Idealize.ShloMosaic Idealize.SL.Sem Cert.Kernel

/-- The attention: the reference runs and keeps its arguments. -/
theorem reference_frame : Cert.quiescent_ReferenceIdeal (hReferenceIdeal := Cert.ReferenceIdeal.Gen.facts) := by
  intro m g _
  refine (θ_run Cert.ReferenceIdeal.defs _ _).mono (fun r h => ⟨fun c => (h c).2, ?_⟩) (Cert.ReferenceIdeal.Value.run (F := Ideal) m g)
  exact sem_eq_zero_of_no_sems (by decide) r.2

/-- The attention: the kernel's result is the reference's, the queries and keys being finite. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    obtain ⟨h₀, h₁, h₂, h₃, h₄, h₅⟩ := hagree c
    rw [Cert.ReferenceIdeal.Read.val_main_v52_eq m' c, h₀, h₁, h₂, h₃, h₄, h₅]
    exact (Cert.Attn.final m hpre c).symm

/-- The feed-forward part: the reference runs and keeps its arguments. -/
theorem ffn_reference_frame : Cert.quiescent_FfnReferenceIdeal (hFfnReferenceIdeal := Cert.FfnReferenceIdeal.Gen.facts) := by
  intro m g _
  refine (θ_run Cert.FfnReferenceIdeal.defs _ _).mono (fun r h => ⟨fun c => (h c).2, ?_⟩) (Cert.FfnReferenceIdeal.Value.run (F := Ideal) m g)
  exact sem_eq_zero_of_no_sems (by decide) r.2

/-- The feed-forward part: the kernel's result is the reference's. -/
theorem ffn : Cert.algebraic_FfnIdeal_FfnReferenceIdeal (hFfnIdeal := Cert.FfnIdeal.Gen.facts)
    (hFfnReferenceIdeal := Cert.FfnReferenceIdeal.Gen.facts) := by
  pair_intro
  · run_from Cert.FfnIdeal.Gen.run_main m g
  · run_from Cert.FfnReferenceIdeal.Value.run m' g'
    exact (Cert.FfnReferenceIdeal.Read.val_main_v19_eq _ _ _ _ _ _).trans (Cert.FfnValue.final m c).symm

/-- The projection: the reference runs and keeps its arguments. -/
theorem in_proj_reference_frame : Cert.quiescent_InProjReferenceIdeal (hInProjReferenceIdeal := Cert.InProjReferenceIdeal.Gen.facts) := by
  intro m g _
  refine (θ_run Cert.InProjReferenceIdeal.defs _ _).mono (fun r h => ⟨fun c => (h c).2, ?_⟩)
    (Cert.InProjReferenceIdeal.Value.run (F := Ideal) m g)
  exact sem_eq_zero_of_no_sems (by decide) r.2

/-- The projection: the kernel's result is the reference's. -/
theorem in_proj : Cert.algebraic_InProjIdeal_InProjReferenceIdeal (hInProjIdeal := Cert.InProjIdeal.Gen.facts)
    (hInProjReferenceIdeal := Cert.InProjReferenceIdeal.Gen.facts) := by
  pair_intro
  · run_from Cert.InProjIdeal.Gen.run_main m g
  · run_from Cert.InProjReferenceIdeal.Value.run m' g'
    obtain ⟨h₀, h₁, h₂⟩ := hagree c
    rw [Cert.InProjReferenceIdeal.Read.val_main_v91_eq m' c, h₀, h₁, h₂]
    exact (Cert.InProjValue.final m c).symm

/-- The merge: the reference runs and keeps its arguments. -/
theorem merge_reference_frame : Cert.quiescent_MergeReferenceIdeal (hMergeReferenceIdeal := Cert.MergeReferenceIdeal.Gen.facts) := by
  intro m g _
  refine (θ_run Cert.MergeReferenceIdeal.defs _ _).mono (fun r h => ⟨fun c => (h c).2.2, ?_⟩)
    (Cert.MergeReferenceIdeal.Value.run (F := Ideal) m g)
  exact sem_eq_zero_of_no_sems (by decide) r.2

/-- The merge: the kernel's two results are the reference's. -/
theorem merge : Cert.algebraic_MergeIdeal_MergeReferenceIdeal (hMergeIdeal := Cert.MergeIdeal.Gen.facts)
    (hMergeReferenceIdeal := Cert.MergeReferenceIdeal.Gen.facts) := by
  pair_intro
  · run_from Cert.MergeIdeal.Gen.run_main m g
  · run_from Cert.MergeReferenceIdeal.Value.run m' g'
    · exact (Cert.MergeReferenceIdeal.Read.val_main_v13_eq _ _ _ _ _ _ _).trans (Cert.MergeValue.final m c).symm
    · exact (Cert.MergeReferenceIdeal.Read.val_main_v28_eq _ _ _ _ _ _ _ _).trans (Cert.MergeValue.final' m c).symm

/-- The attention and the merge joined: the reference runs and keeps its arguments. -/
theorem mix_reference_frame : Cert.quiescent_MixReferenceIdeal (hMixReferenceIdeal := Cert.MixReferenceIdeal.Gen.facts) := by
  intro m g _
  refine (θ_run Cert.MixReferenceIdeal.defs _ _).mono (fun r h => ⟨fun c => (h c).2.2, ?_⟩)
    (Cert.MixReferenceIdeal.Value.run (F := Ideal) m g)
  exact sem_eq_zero_of_no_sems (by decide) r.2

/-- The attention and the merge joined: the kernel's two results are the reference's, the queries and keys being finite. -/
theorem mix : Cert.algebraic_MixIdeal_MixReferenceIdeal_pre_mix_finite (hMixIdeal := Cert.MixIdeal.Gen.facts)
    (hMixReferenceIdeal := Cert.MixReferenceIdeal.Gen.facts) (hPre_mix_finite := Cert.Pre_mix_finite.Gen.facts) := by
  pair_intro
  · run_from Cert.MixRun.run m g
  · run_from Cert.MixReferenceIdeal.Value.run m' g'
    · obtain ⟨h₀, h₁, h₂, h₃, h₄, h₅, h₆, h₇, h₈, h₉, h₁₀, h₁₁⟩ := hagree c
      rw [Cert.MixReferenceIdeal.Read.val_main_v65_eq m' c, h₀, h₁, h₂, h₃, h₄, h₅, h₆, h₇, h₈, h₉, h₁₀]
      exact (Cert.MixValue.final m g hpre c).1.symm
    · obtain ⟨h₀, h₁, h₂, h₃, h₄, h₅, h₆, h₇, h₈, h₉, h₁₀, h₁₁⟩ := hagree c
      rw [Cert.MixReferenceIdeal.Read.val_main_v80_eq m' c, h₀, h₁, h₂, h₃, h₄, h₅, h₆, h₇, h₈, h₉, h₁₀, h₁₁]
      exact (Cert.MixValue.final m g hpre c).2.symm

/-- Everything the certificate claims. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.InProj.Gen.facts, Cert.InProjIdeal.Gen.facts, Cert.InProjReferenceIdeal.Gen.facts,
  Cert.Merge.Gen.facts, Cert.MergeIdeal.Gen.facts, Cert.MergeReferenceIdeal.Gen.facts,
  Cert.Mix.Gen.facts, Cert.MixIdeal.Gen.facts, Cert.MixReferenceIdeal.Gen.facts, Cert.Pre_finite.Gen.facts, Cert.Pre_mix_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, fun m ρ _ => Cert.Ffn.Gen.frame m ρ, fun m ρ _ => Cert.FfnIdeal.Gen.frame m ρ,
  ffn_reference_frame, fun m ρ _ => Cert.InProj.Gen.frame m ρ, fun m ρ _ => Cert.InProjIdeal.Gen.frame m ρ, in_proj_reference_frame,
  fun m ρ _ => Cert.Merge.Gen.frame m ρ, fun m ρ _ => Cert.MergeIdeal.Gen.frame m ρ, merge_reference_frame,
  fun m ρ _ => Cert.Mix.Gen.frame m ρ, fun m ρ _ => Cert.MixIdeal.Gen.frame m ρ, fun m ρ _ => Cert.MixIdeal.Gen.frame m ρ,
  mix_reference_frame, fun m ρ _ => mix_reference_frame m ρ trivial,
  trivial, attention, trivial, ffn, trivial, in_proj, trivial, merge, trivial, mix⟩

end Cert.Proof

end
